-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x64x16x32x32 : Shape := ⟨5, ![4, 64, 16, 32, 32]⟩
abbrev S1024x64 : Shape := ⟨2, ![1024, 64]⟩
abbrev S_ : Shape := ⟨0, ![]⟩

class Facts : Prop where
  bcast_S_S4x64x16x32x32 : S_.BroadcastsInDim S4x64x16x32x32 (![] : Fin 0 → Fin S4x64x16x32x32.rank)
  reducesTo_S4x64x16x32x32_S_d0_1_2_3_4 : S4x64x16x32x32.ReducesTo [0, 1, 2, 3, 4] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S4x64x16x32x32 .f32) (main_arg1 : FVec F S1024x64 .f32) : IVec S_ 1 :=
  let main_v0 : FVec F S4x64x16x32x32 .f32 := Host.absf main_arg0
  let main_cst : FVec F S_ .f32 := constant S_ .f32 0x7F800000#32
  let main_v1 : FVec F S4x64x16x32x32 .f32 := broadcastInDim S4x64x16x32x32 ![] bcast_S_S4x64x16x32x32 main_cst
  let main_v2 : IVec S4x64x16x32x32 1 := cmpf .olt main_v0 main_v1
  let main_c : IVec S_ 1 := constantI S_ 1 1#1
  let main_v3 : IVec S_ 1 := (fun x v => Host.reduce IntOp.andi x v reducesTo_S4x64x16x32x32_S_d0_1_2_3_4 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S4x64x16x32x32 : Shape := ⟨5, ![4, 64, 16, 32, 32]⟩
abbrev S1024x64 : Shape := ⟨2, ![1024, 64]⟩
abbrev S4x16x32x32x64 : Shape := ⟨5, ![4, 16, 32, 32, 64]⟩
abbrev S65536x64 : Shape := ⟨2, ![65536, 64]⟩
abbrev S64x1024 : Shape := ⟨2, ![64, 1024]⟩
abbrev S65536x1024 : Shape := ⟨2, ![65536, 1024]⟩
abbrev S1x1 : Shape := ⟨2, ![1, 1]⟩
abbrev S4096x64 : Shape := ⟨2, ![4096, 64]⟩
abbrev S4096x1024 : Shape := ⟨2, ![4096, 1024]⟩
abbrev S1x1024 : Shape := ⟨2, ![1, 1024]⟩
abbrev S4096 : Shape := ⟨1, ![4096]⟩
abbrev S4096x1 : Shape := ⟨2, ![4096, 1]⟩
abbrev S1024 : Shape := ⟨1, ![1024]⟩
abbrev S1x4096x1 : Shape := ⟨3, ![1, 4096, 1]⟩
abbrev S1 : Shape := ⟨1, ![1]⟩
abbrev S1x1x1 : Shape := ⟨3, ![1, 1, 1]⟩
abbrev S_ : Shape := ⟨0, ![]⟩

abbrev nBuf : Space → Nat
  | .hbm => 13
  | .vmem => 11
  | .smem => 0
  | _ => 0

abbrev bufTy : (tb : Table) → Fin (tcTables nBuf tb) → BufTy
  | .hbm, ⟨0, _⟩ => ⟨S4x64x16x32x32, .f32⟩
  | .hbm, ⟨1, _⟩ => ⟨S1024x64, .f32⟩
  | .hbm, ⟨2, _⟩ => ⟨S4x16x32x32x64, .f32⟩
  | .hbm, ⟨3, _⟩ => ⟨S65536x64, .f32⟩
  | .hbm, ⟨4, _⟩ => ⟨S64x1024, .f32⟩
  | .hbm, ⟨5, _⟩ => ⟨S65536x64, .f32⟩
  | .hbm, ⟨6, _⟩ => ⟨S65536x1024, .f32⟩
  | .hbm, ⟨7, _⟩ => ⟨S1x1, .f32⟩
  | .hbm, ⟨8, _⟩ => ⟨S1x1, .f32⟩
  | .hbm, ⟨9, _⟩ => ⟨S4x16x32x32x64, .f32⟩
  | .hbm, ⟨10, _⟩ => ⟨S4x64x16x32x32, .f32⟩
  | .hbm, ⟨11, _⟩ => ⟨S_, .f32⟩
  | .hbm, ⟨12, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S1024x64, .f32⟩
  | .local _ .vmem, ⟨3, _⟩ => ⟨S64x1024, .f32⟩
  | .local _ .vmem, ⟨4, _⟩ => ⟨S4096x64, .f32⟩
  | .local _ .vmem, ⟨5, _⟩ => ⟨S4096x64, .f32⟩
  | .local _ .vmem, ⟨6, _⟩ => ⟨S4096x1024, .f32⟩
  | .local _ .vmem, ⟨7, _⟩ => ⟨S4096x1024, .f32⟩
  | .local _ .vmem, ⟨8, _⟩ => ⟨S1x1, .f32⟩
  | .local _ .vmem, ⟨9, _⟩ => ⟨S1x1, .f32⟩
  | .local _ .vmem, ⟨10, _⟩ => ⟨S1x1024, .f32⟩
  | _, _ => ⟨S4x64x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v1 : BitVec 1 := Scalar.cmpi .eq arg0 c15_i32
  let v58 : BitVec 32 := Scalar.extui v1
  let c0_i32_27 : BitVec 32 := 0#32
  let v59 : BitVec 1 := Scalar.cmpi .ne v58 c0_i32_27
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4x64x16x32x32 : Shape := ⟨5, ![4, 64, 16, 32, 32]⟩
abbrev S1024x64 : Shape := ⟨2, ![1024, 64]⟩
abbrev S4x16x32x32x64 : Shape := ⟨5, ![4, 16, 32, 32, 64]⟩
abbrev S65536x64 : Shape := ⟨2, ![65536, 64]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S65536x1024 : Shape := ⟨2, ![65536, 1024]⟩
abbrev S64x1024 : Shape := ⟨2, ![64, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4x64x16x32x32, .f32⟩
  | .hbm, ⟨1, _⟩ => ⟨S1024x64, .f32⟩
  | .hbm, ⟨2, _⟩ => ⟨S4x16x32x32x64, .f32⟩
  | .hbm, ⟨3, _⟩ => ⟨S65536x64, .f32⟩
  | .hbm, ⟨4, _⟩ => ⟨S65536x64, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S64x1024, .f32⟩
  | .hbm, ⟨16, _⟩ => ⟨S65536x1024, .f32⟩
  | .hbm, ⟨17, _⟩ => ⟨S_, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .i32⟩
  | .hbm, ⟨22, _⟩ => ⟨S_, .f32⟩
  | .hbm, ⟨23, _⟩ => ⟨S_, .i32⟩
  | .hbm, ⟨24, _⟩ => ⟨S65536, .f32⟩
  | .hbm, ⟨25, _⟩ => ⟨S65536, .i32⟩
  | .hbm, ⟨26, _⟩ => ⟨S65536x1, .i32⟩
  | .hbm, ⟨27, _⟩ => ⟨S1x1024, .i32⟩
  | .hbm, ⟨28, _⟩ => ⟨S65536x1024, .i32⟩
  | .hbm, ⟨29, _⟩ => ⟨S65536x1024, .i32⟩
  | .hbm, ⟨30, _⟩ => ⟨S65536x1024, .i1⟩
  | .hbm, ⟨31, _⟩ => ⟨S65536x1024, .f32⟩
  | .hbm, ⟨32, _⟩ => ⟨S65536x64, .f32⟩
  | .hbm, ⟨33, _⟩ => ⟨S4x16x32x32x64, .f32⟩
  | .hbm, ⟨34, _⟩ => ⟨S4x16x32x32x64, .f32⟩
  | .hbm, ⟨35, _⟩ => ⟨S4x16x32x32x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4x16x32x32x64, .f32⟩
  | .hbm, ⟨41, _⟩ => ⟨S4x16x32x32x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4x16x32x32x64, .f32⟩
  | .hbm, ⟨50, _⟩ => ⟨S4x16x32x32x64, .f32⟩
  | .hbm, ⟨51, _⟩ => ⟨S_, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4x64x16x32x32, .f32⟩
  | _, _ => ⟨S4x64x16x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Proof.Cases.lean ====
/-
  What the kernel's body leaves in each output block and in the carried counts at one grid point, as a function
  of the blocks it reads: one statement per kind of point (first, middle, last).
-/
module

public import proofs.«01_k».proof.Proof.Gen.KernelIdeal.Frame
public import Idealize.ShloMosaic.Lib.Pipeline.Value
public import Idealize.ShloMosaic.Lib.Tactic

@[expose] public section

noncomputable section

namespace Cert.KernelIdeal.Vq

open Cert.KernelIdeal Cert.KernelIdeal.Gen Idealize.ShloMosaic Idealize.ShloMosaic.TcCoe Idealize.SL.Sem

variable {F : FTy → Type} [FloatOps F]

/-- Both offsets of a whole-block access are zero. -/
theorem offs_zero : (![0, 0] : Fin 2 → Nat) = fun _ => 0 := funext fun a => by fin_cases a <;> rfl

section Points

variable (c : Dev nD) (i : grid0.Coords) (arg1 : Memref sig .tc .vmem S4096x64 .f32) (harg1 : arg1.IsWhole) (arg2 : Memref sig .tc .vmem S1024x64 .f32) (harg2 : arg2.IsWhole) (arg3 : Memref sig .tc .vmem S64x1024 .f32) (harg3 : arg3.IsWhole) (arg4 : Memref sig .tc .vmem S4096x64 .f32) (harg4 : arg4.IsWhole) (arg5 : Memref sig .tc .vmem S4096x1024 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1024 .f32) (harg8 : arg8.IsWhole)
    (x0 : Vec F S4096x64 .f32) (x1 : Vec F S1024x64 .f32) (x2 : Vec F S64x1024 .f32) (xo5 : Vec F S1x1 .f32) (xs0 : Vec F S1x1024 .f32)

/-- At the first point the body leaves the quantised rows as its last store's value of the blocks it read. -/
theorem quant_A (hc0 : cond0_0 i) (hc1 : ¬cond0_1 i) :
    out0_A_3 c i arg1 harg1 arg2 harg2 arg3 harg3 arg4 harg4 arg5 harg5 arg6 harg6 arg7 harg7 arg8 harg8 hc0 hc1 x0 x1 x2 = k0_pay1 (k0_pay10 x0 x2) x1 := by
  unfold out0_A_3
  rw [View.read_writes_eq_canon _ _ _ (cover0_A_3 c i arg1 harg1 arg2 harg2 arg3 harg3 arg4 harg4 arg5 harg5 arg6 harg6 arg7 harg7 arg8 harg8 hc0 hc1 x0 x1 x2)]
  unfold kernelRun0_A
  dsimp only
  (try sl_unfold_words)
  simp only [View.canon_cons_unit_zero (S := S4096x64) offs_zero, View.canon_cons_unit_zero (S := S4096x1024) offs_zero, View.canon_cons_unit_zero (S := S1x1) offs_zero, View.canon_cons_unit_zero (S := S1x1024) offs_zero,
    View.readCov_unit_zero (S := S1x1) _ offs_zero, View.readCov_unit_zero (S := S1x1024) _ offs_zero,
    View.readAt_eq_ld, harg1.read_unread, harg2.read_unread, harg3.read_unread, harg6.read_unread, harg8.read_unread,
    View.ld_unit_zero (S := S4096x64) offs_zero, View.ld_unit_zero (S := S1024x64) offs_zero, View.ld_unit_zero (S := S64x1024) offs_zero, View.ld_unit_zero (S := S1x1) offs_zero, View.ld_unit_zero (S := S1x1024) offs_zero]

/-- At the first point the body leaves the one-hot rows as its last store's value of the blocks it read. -/
theorem onehot_A (hc0 : cond0_0 i) (hc1 : ¬cond0_1 i) :
    out0_A_4 c i arg1 harg1 arg2 harg2 arg3 harg3 arg4 harg4 arg5 harg5 arg6 harg6 arg7 harg7 arg8 harg8 hc0 hc1 x0 x1 x2 = k0_pay10 x0 x2 := by
  unfold out0_A_4
  rw [View.read_writes_eq_canon _ _ _ (cover0_A_4 c i arg1 harg1 arg2 harg2 arg3 harg3 arg4 harg4 arg5 harg5 arg6 harg6 arg7 harg7 arg8 harg8 hc0 hc1 x0 x1 x2)]
  unfold kernelRun0_A
  dsimp only
  (try sl_unfold_words)
  simp only [View.canon_cons_unit_zero (S := S4096x64) offs_zero, View.canon_cons_unit_zero (S := S4096x1024) offs_zero, View.canon_cons_unit_zero (S := S1x1) offs_zero, View.canon_cons_unit_zero (S := S1x1024) offs_zero,
    View.readCov_unit_zero (S := S1x1) _ offs_zero, View.readCov_unit_zero (S := S1x1024) _ offs_zero,
    View.readAt_eq_ld, harg1.read_unread, harg2.read_unread, harg3.read_unread, harg6.read_unread, harg8.read_unread,
    View.ld_unit_zero (S := S4096x64) offs_zero, View.ld_unit_zero (S := S1024x64) offs_zero, View.ld_unit_zero (S := S64x1024) offs_zero, View.ld_unit_zero (S := S1x1) offs_zero, View.ld_unit_zero (S := S1x1024) offs_zero]

/-- At the first point the body leaves the running loss as its last store's value of the blocks it read. -/
theorem loss_A (hc0 : cond0_0 i) (hc1 : ¬cond0_1 i) :
    out0_A_5 c i arg1 harg1 arg2 harg2 arg3 harg3 arg4 harg4 arg5 harg5 arg6 harg6 arg7 harg7 arg8 harg8 hc0 hc1 x0 x1 x2 = k0_pay2 (k0_pay9 x0 x2) k0_pay6 := by
  unfold out0_A_5
  rw [View.read_writes_eq_canon _ _ _ (cover0_A_5 c i arg1 harg1 arg2 harg2 arg3 harg3 arg4 harg4 arg5 harg5 arg6 harg6 arg7 harg7 arg8 harg8 hc0 hc1 x0 x1 x2)]
  unfold kernelRun0_A
  dsimp only
  (try sl_unfold_words)
  simp only [View.canon_cons_unit_zero (S := S4096x64) offs_zero, View.canon_cons_unit_zero (S := S4096x1024) offs_zero, View.canon_cons_unit_zero (S := S1x1) offs_zero, View.canon_cons_unit_zero (S := S1x1024) offs_zero,
    View.readCov_unit_zero (S := S1x1) _ offs_zero, View.readCov_unit_zero (S := S1x1024) _ offs_zero,
    View.readAt_eq_ld, harg1.read_unread, harg2.read_unread, harg3.read_unread, harg6.read_unread, harg8.read_unread,
    View.ld_unit_zero (S := S4096x64) offs_zero, View.ld_unit_zero (S := S1024x64) offs_zero, View.ld_unit_zero (S := S64x1024) offs_zero, View.ld_unit_zero (S := S1x1) offs_zero, View.ld_unit_zero (S := S1x1024) offs_zero]

/-- At the first point the body leaves the running code counts as its last store's value of the blocks it read. -/
theorem counts_A (hc0 : cond0_0 i) (hc1 : ¬cond0_1 i) :
    sout0_A_0 c i arg1 harg1 arg2 harg2 arg3 harg3 arg4 harg4 arg5 harg5 arg6 harg6 arg7 harg7 arg8 harg8 hc0 hc1 x0 x1 x2 = k0_pay3 (k0_pay10 x0 x2) k0_pay7 := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2)]
  unfold kernelRun0_A
  dsimp only
  (try sl_unfold_words)
  simp only [View.canon_cons_unit_zero (S := S4096x64) offs_zero, View.canon_cons_unit_zero (S := S4096x1024) offs_zero, View.canon_cons_unit_zero (S := S1x1) offs_zero, View.canon_cons_unit_zero (S := S1x1024) offs_zero,
    View.readCov_unit_zero (S := S1x1) _ offs_zero, View.readCov_unit_zero (S := S1x1024) _ offs_zero,
    View.readAt_eq_ld, harg1.read_unread, harg2.read_unread, harg3.read_unread, harg6.read_unread, harg8.read_unread,
    View.ld_unit_zero (S := S4096x64) offs_zero, View.ld_unit_zero (S := S1024x64) offs_zero, View.ld_unit_zero (S := S64x1024) offs_zero, View.ld_unit_zero (S := S1x1) offs_zero, View.ld_unit_zero (S := S1x1024) offs_zero]

/-- At a middle point the body leaves the quantised rows as its last store's value of the blocks it read. -/
theorem quant_B (hc0 : ¬cond0_0 i) (hc1 : ¬cond0_1 i) :
    out0_B_3 c i arg1 harg1 arg2 harg2 arg3 harg3 arg4 harg4 arg5 harg5 arg6 harg6 arg7 harg7 arg8 harg8 hc0 hc1 x0 x1 x2 xo5 xs0 = k0_pay1 (k0_pay10 x0 x2) x1 := by
  unfold out0_B_3
  rw [View.read_writes_eq_canon _ _ _ (cover0_B_3 c i arg1 harg1 arg2 harg2 arg3 harg3 arg4 harg4 arg5 harg5 arg6 harg6 arg7 harg7 arg8 harg8 hc0 hc1 x0 x1 x2 xo5 xs0)]
  unfold kernelRun0_B
  dsimp only
  (try sl_unfold_words)
  simp only [View.canon_cons_unit_zero (S := S4096x64) offs_zero, View.canon_cons_unit_zero (S := S4096x1024) offs_zero, View.canon_cons_unit_zero (S := S1x1) offs_zero, View.canon_cons_unit_zero (S := S1x1024) offs_zero,
    View.readCov_unit_zero (S := S1x1) _ offs_zero, View.readCov_unit_zero (S := S1x1024) _ offs_zero,
    View.readAt_eq_ld, harg1.read_unread, harg2.read_unread, harg3.read_unread, harg6.read_unread, harg8.read_unread,
    View.ld_unit_zero (S := S4096x64) offs_zero, View.ld_unit_zero (S := S1024x64) offs_zero, View.ld_unit_zero (S := S64x1024) offs_zero, View.ld_unit_zero (S := S1x1) offs_zero, View.ld_unit_zero (S := S1x1024) offs_zero]

/-- At a middle point the body leaves the one-hot rows as its last store's value of the blocks it read. -/
theorem onehot_B (hc0 : ¬cond0_0 i) (hc1 : ¬cond0_1 i) :
    out0_B_4 c i arg1 harg1 arg2 harg2 arg3 harg3 arg4 harg4 arg5 harg5 arg6 harg6 arg7 harg7 arg8 harg8 hc0 hc1 x0 x1 x2 xo5 xs0 = k0_pay10 x0 x2 := by
  unfold out0_B_4
  rw [View.read_writes_eq_canon _ _ _ (cover0_B_4 c i arg1 harg1 arg2 harg2 arg3 harg3 arg4 harg4 arg5 harg5 arg6 harg6 arg7 harg7 arg8 harg8 hc0 hc1 x0 x1 x2 xo5 xs0)]
  unfold kernelRun0_B
  dsimp only
  (try sl_unfold_words)
  simp only [View.canon_cons_unit_zero (S := S4096x64) offs_zero, View.canon_cons_unit_zero (S := S4096x1024) offs_zero, View.canon_cons_unit_zero (S := S1x1) offs_zero, View.canon_cons_unit_zero (S := S1x1024) offs_zero,
    View.readCov_unit_zero (S := S1x1) _ offs_zero, View.readCov_unit_zero (S := S1x1024) _ offs_zero,
    View.readAt_eq_ld, harg1.read_unread, harg2.read_unread, harg3.read_unread, harg6.read_unread, harg8.read_unread,
    View.ld_unit_zero (S := S4096x64) offs_zero, View.ld_unit_zero (S := S1024x64) offs_zero, View.ld_unit_zero (S := S64x1024) offs_zero, View.ld_unit_zero (S := S1x1) offs_zero, View.ld_unit_zero (S := S1x1024) offs_zero]

/-- At a middle point the body leaves the running loss as its last store's value of the blocks it read. -/
theorem loss_B (hc0 : ¬cond0_0 i) (hc1 : ¬cond0_1 i) :
    out0_B_5 c i arg1 harg1 arg2 harg2 arg3 harg3 arg4 harg4 arg5 harg5 arg6 harg6 arg7 harg7 arg8 harg8 hc0 hc1 x0 x1 x2 xo5 xs0 = k0_pay2 (k0_pay9 x0 x2) xo5 := by
  unfold out0_B_5
  rw [View.read_writes_eq_canon _ _ _ (cover0_B_5 c i arg1 harg1 arg2 harg2 arg3 harg3 arg4 harg4 arg5 harg5 arg6 harg6 arg7 harg7 arg8 harg8 hc0 hc1 x0 x1 x2 xo5 xs0)]
  unfold kernelRun0_B
  dsimp only
  (try sl_unfold_words)
  simp only [View.canon_cons_unit_zero (S := S4096x64) offs_zero, View.canon_cons_unit_zero (S := S4096x1024) offs_zero, View.canon_cons_unit_zero (S := S1x1) offs_zero, View.canon_cons_unit_zero (S := S1x1024) offs_zero,
    View.readCov_unit_zero (S := S1x1) _ offs_zero, View.readCov_unit_zero (S := S1x1024) _ offs_zero,
    View.readAt_eq_ld, harg1.read_unread, harg2.read_unread, harg3.read_unread, harg6.read_unread, harg8.read_unread,
    View.ld_unit_zero (S := S4096x64) offs_zero, View.ld_unit_zero (S := S1024x64) offs_zero, View.ld_unit_zero (S := S64x1024) offs_zero, View.ld_unit_zero (S := S1x1) offs_zero, View.ld_unit_zero (S := S1x1024) offs_zero]

/-- At a middle point the body leaves the running code counts as its last store's value of the blocks it read. -/
theorem counts_B (hc0 : ¬cond0_0 i) (hc1 : ¬cond0_1 i) :
    sout0_B_0 c i arg1 harg1 arg2 harg2 arg3 harg3 arg4 harg4 arg5 harg5 arg6 harg6 arg7 harg7 arg8 harg8 hc0 hc1 x0 x1 x2 xo5 xs0 = k0_pay3 (k0_pay10 x0 x2) xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 xo5 xs0)]
  unfold kernelRun0_B
  dsimp only
  (try sl_unfold_words)
  simp only [View.canon_cons_unit_zero (S := S4096x64) offs_zero, View.canon_cons_unit_zero (S := S4096x1024) offs_zero, View.canon_cons_unit_zero (S := S1x1) offs_zero, View.canon_cons_unit_zero (S := S1x1024) offs_zero,
    View.readCov_unit_zero (S := S1x1) _ offs_zero, View.readCov_unit_zero (S := S1x1024) _ offs_zero,
    View.readAt_eq_ld, harg1.read_unread, harg2.read_unread, harg3.read_unread, harg6.read_unread, harg8.read_unread,
    View.ld_unit_zero (S := S4096x64) offs_zero, View.ld_unit_zero (S := S1024x64) offs_zero, View.ld_unit_zero (S := S64x1024) offs_zero, View.ld_unit_zero (S := S1x1) offs_zero, View.ld_unit_zero (S := S1x1024) offs_zero]

/-- At the last point the body leaves the quantised rows as its last store's value of the blocks it read. -/
theorem quant_C (hc0 : ¬cond0_0 i) (hc1 : cond0_1 i) :
    out0_C_3 c i arg1 harg1 arg2 harg2 arg3 harg3 arg4 harg4 arg5 harg5 arg6 harg6 arg7 harg7 arg8 harg8 hc0 hc1 x0 x1 x2 xo5 xs0 = k0_pay1 (k0_pay10 x0 x2) x1 := by
  unfold out0_C_3
  rw [View.read_writes_eq_canon _ _ _ (cover0_C_3 c i arg1 harg1 arg2 harg2 arg3 harg3 arg4 harg4 arg5 harg5 arg6 harg6 arg7 harg7 arg8 harg8 hc0 hc1 x0 x1 x2 xo5 xs0)]
  unfold kernelRun0_C
  dsimp only
  (try sl_unfold_words)
  simp only [View.canon_cons_unit_zero (S := S4096x64) offs_zero, View.canon_cons_unit_zero (S := S4096x1024) offs_zero, View.canon_cons_unit_zero (S := S1x1) offs_zero, View.canon_cons_unit_zero (S := S1x1024) offs_zero,
    View.readCov_unit_zero (S := S1x1) _ offs_zero, View.readCov_unit_zero (S := S1x1024) _ offs_zero,
    View.readAt_eq_ld, harg1.read_unread, harg2.read_unread, harg3.read_unread, harg6.read_unread, harg8.read_unread,
    View.ld_unit_zero (S := S4096x64) offs_zero, View.ld_unit_zero (S := S1024x64) offs_zero, View.ld_unit_zero (S := S64x1024) offs_zero, View.ld_unit_zero (S := S1x1) offs_zero, View.ld_unit_zero (S := S1x1024) offs_zero]

/-- At the last point the body leaves the one-hot rows as its last store's value of the blocks it read. -/
theorem onehot_C (hc0 : ¬cond0_0 i) (hc1 : cond0_1 i) :
    out0_C_4 c i arg1 harg1 arg2 harg2 arg3 harg3 arg4 harg4 arg5 harg5 arg6 harg6 arg7 harg7 arg8 harg8 hc0 hc1 x0 x1 x2 xo5 xs0 = k0_pay10 x0 x2 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 xo5 xs0)]
  unfold kernelRun0_C
  dsimp only
  (try sl_unfold_words)
  simp only [View.canon_cons_unit_zero (S := S4096x64) offs_zero, View.canon_cons_unit_zero (S := S4096x1024) offs_zero, View.canon_cons_unit_zero (S := S1x1) offs_zero, View.canon_cons_unit_zero (S := S1x1024) offs_zero,
    View.readCov_unit_zero (S := S1x1) _ offs_zero, View.readCov_unit_zero (S := S1x1024) _ offs_zero,
    View.readAt_eq_ld, harg1.read_unread, harg2.read_unread, harg3.read_unread, harg6.read_unread, harg8.read_unread,
    View.ld_unit_zero (S := S4096x64) offs_zero, View.ld_unit_zero (S := S1024x64) offs_zero, View.ld_unit_zero (S := S64x1024) offs_zero, View.ld_unit_zero (S := S1x1) offs_zero, View.ld_unit_zero (S := S1x1024) offs_zero]

/-- At the last point the body leaves the running loss as its last store's value of the blocks it read. -/
theorem loss_C (hc0 : ¬cond0_0 i) (hc1 : cond0_1 i) :
    out0_C_5 c i arg1 harg1 arg2 harg2 arg3 harg3 arg4 harg4 arg5 harg5 arg6 harg6 arg7 harg7 arg8 harg8 hc0 hc1 x0 x1 x2 xo5 xs0 = k0_pay5 (k0_pay2 (k0_pay9 x0 x2) xo5) := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 xo5 xs0)]
  unfold kernelRun0_C
  dsimp only
  (try sl_unfold_words)
  simp only [View.canon_cons_unit_zero (S := S4096x64) offs_zero, View.canon_cons_unit_zero (S := S4096x1024) offs_zero, View.canon_cons_unit_zero (S := S1x1) offs_zero, View.canon_cons_unit_zero (S := S1x1024) offs_zero,
    View.readCov_unit_zero (S := S1x1) _ offs_zero, View.readCov_unit_zero (S := S1x1024) _ offs_zero,
    View.readAt_eq_ld, harg1.read_unread, harg2.read_unread, harg3.read_unread, harg6.read_unread, harg8.read_unread,
    View.ld_unit_zero (S := S4096x64) offs_zero, View.ld_unit_zero (S := S1024x64) offs_zero, View.ld_unit_zero (S := S64x1024) offs_zero, View.ld_unit_zero (S := S1x1) offs_zero, View.ld_unit_zero (S := S1x1024) offs_zero]

/-- At the last point the body leaves the perplexity as its last store's value of the blocks it read. -/
theorem perp_C (hc0 : ¬cond0_0 i) (hc1 : cond0_1 i) :
    out0_C_6 c i arg1 harg1 arg2 harg2 arg3 harg3 arg4 harg4 arg5 harg5 arg6 harg6 arg7 harg7 arg8 harg8 hc0 hc1 x0 x1 x2 xo5 xs0 = k0_pay4 (k0_pay3 (k0_pay10 x0 x2) xs0) := by
  unfold out0_C_6
  rw [View.read_writes_eq_canon _ _ _ (cover0_C_6 c i arg1 harg1 arg2 harg2 arg3 harg3 arg4 harg4 arg5 harg5 arg6 harg6 arg7 harg7 arg8 harg8 hc0 hc1 x0 x1 x2 xo5 xs0)]
  unfold kernelRun0_C
  dsimp only
  (try sl_unfold_words)
  simp only [View.canon_cons_unit_zero (S := S4096x64) offs_zero, View.canon_cons_unit_zero (S := S4096x1024) offs_zero, View.canon_cons_unit_zero (S := S1x1) offs_zero, View.canon_cons_unit_zero (S := S1x1024) offs_zero,
    View.readCov_unit_zero (S := S1x1) _ offs_zero, View.readCov_unit_zero (S := S1x1024) _ offs_zero,
    View.readAt_eq_ld, harg1.read_unread, harg2.read_unread, harg3.read_unread, harg6.read_unread, harg8.read_unread,
    View.ld_unit_zero (S := S4096x64) offs_zero, View.ld_unit_zero (S := S1024x64) offs_zero, View.ld_unit_zero (S := S64x1024) offs_zero, View.ld_unit_zero (S := S1x1) offs_zero, View.ld_unit_zero (S := S1x1024) offs_zero]

/-- At the last point the body leaves the running code counts as its last store's value of the blocks it read. -/
theorem counts_C (hc0 : ¬cond0_0 i) (hc1 : cond0_1 i) :
    sout0_C_0 c i arg1 harg1 arg2 harg2 arg3 harg3 arg4 harg4 arg5 harg5 arg6 harg6 arg7 harg7 arg8 harg8 hc0 hc1 x0 x1 x2 xo5 xs0 = k0_pay3 (k0_pay10 x0 x2) xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 xo5 xs0)]
  unfold kernelRun0_C
  dsimp only
  (try sl_unfold_words)
  simp only [View.canon_cons_unit_zero (S := S4096x64) offs_zero, View.canon_cons_unit_zero (S := S4096x1024) offs_zero, View.canon_cons_unit_zero (S := S1x1) offs_zero, View.canon_cons_unit_zero (S := S1x1024) offs_zero,
    View.readCov_unit_zero (S := S1x1) _ offs_zero, View.readCov_unit_zero (S := S1x1024) _ offs_zero,
    View.readAt_eq_ld, harg1.read_unread, harg2.read_unread, harg3.read_unread, harg6.read_unread, harg8.read_unread,
    View.ld_unit_zero (S := S4096x64) offs_zero, View.ld_unit_zero (S := S1024x64) offs_zero, View.ld_unit_zero (S := S64x1024) offs_zero, View.ld_unit_zero (S := S1x1) offs_zero, View.ld_unit_zero (S := S1x1024) offs_zero]

end Points

end Cert.KernelIdeal.Vq

end
-- ==== Proof.Points.lean ====
/-
  What the output blocks and the carried counts hold after each grid point, in closed form over the blocks the
  point reads: the quantised rows and the one-hot rows depend on the point's own blocks only; the loss and the
  counts are running sums from the first point.
-/
module

public import proofs.«01_k».proof.Proof.Cases

@[expose] public section

noncomputable section

namespace Cert.KernelIdeal.Vq

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The least distances of the rows of point `t`'s block. -/
abbrev leastAt (c : Dev nD) (t : Fin cfg0.N) : FVec F S4096x1 .f32 := k0_pay9 (iblk m c 0 t) (iblk m c 2 t)

/-- The one-hot rows of point `t`'s block. -/
abbrev onehotAt (c : Dev nD) (t : Fin cfg0.N) : FVec F S4096x1024 .f32 := k0_pay10 (iblk m c 0 t) (iblk m c 2 t)

/-- The running loss after point `n`: zero, then each point's least distances added. -/
def lossAt (c : Dev nD) : (n : ℕ) → n < cfg0.N → FVec F S1x1 .f32
  | 0, h => k0_pay2 (leastAt m c ⟨0, h⟩) k0_pay6
  | n + 1, h => k0_pay2 (leastAt m c ⟨n + 1, h⟩) (lossAt c n (Nat.lt_of_succ_lt h))

/-- The running counts after point `n`: zero, then each point's one-hot rows summed by column. -/
def countsAt (c : Dev nD) : (n : ℕ) → n < cfg0.N → FVec F S1x1024 .f32
  | 0, h => k0_pay3 (onehotAt m c ⟨0, h⟩) k0_pay7
  | n + 1, h => k0_pay3 (onehotAt m c ⟨n + 1, h⟩) (countsAt c n (Nat.lt_of_succ_lt h))

/-- After any point the quantised block is the one-hot rows times the codebook. -/
theorem quant_at (c : Dev nD) (t : Fin cfg0.N) :
    (outsAt0 m c t.val t.isLt).1 = k0_pay1 (onehotAt m c t) (iblk m c 1 t) := by
  have hN : t.val < 16 := lt_of_lt_of_eq t.isLt N_0
  by_cases h0 : t.val % 16 = 0
  · have h1 : ¬t.val % 16 = 15 := by omega
    rw [outsAt0_A m c t h0 h1]; dsimp only; rw [quant_A]
  · by_cases h1 : t.val % 16 = 15
    · rw [outsAt0_C m c t h0 h1]; dsimp only; rw [quant_C]
    · rw [outsAt0_B m c t h0 h1]; dsimp only; rw [quant_B]

/-- After any point the one-hot block is the one-hot rows of the point's block. -/
theorem onehot_at (c : Dev nD) (t : Fin cfg0.N) : (outsAt0 m c t.val t.isLt).2.1 = onehotAt m c t := by
  have hN : t.val < 16 := lt_of_lt_of_eq t.isLt N_0
  by_cases h0 : t.val % 16 = 0
  · have h1 : ¬t.val % 16 = 15 := by omega
    rw [outsAt0_A m c t h0 h1]; dsimp only; rw [onehot_A]
  · by_cases h1 : t.val % 16 = 15
    · rw [outsAt0_C m c t h0 h1]; dsimp only; rw [onehot_C]
    · rw [outsAt0_B m c t h0 h1]; dsimp only; rw [onehot_B]

/-- After any point the carried counts are the running counts. -/
theorem counts_at (c : Dev nD) : ∀ (n : ℕ) (h : n < cfg0.N), (outsAt0 m c n h).2.2.2.2 = countsAt m c n h
  | 0, h => by
    rw [show outsAt0 m c 0 h = _ from outsAt0_A m c ⟨0, h⟩ rfl (show ¬0 % 16 = 15 by decide)]; dsimp only; rw [counts_A]; rfl
  | n + 1, h => by
    have hN : n + 1 < 16 := lt_of_lt_of_eq h N_0
    have h0 : ¬(⟨n + 1, h⟩ : Fin cfg0.N).val % 16 = 0 := by dsimp only; omega
    by_cases h1 : (⟨n + 1, h⟩ : Fin cfg0.N).val % 16 = 15
    · rw [show outsAt0 m c (n + 1) h = _ from outsAt0_C m c ⟨n + 1, h⟩ h0 h1]; dsimp only; rw [counts_C]
      show k0_pay3 _ (outsAt0 m c n _).2.2.2.2 = k0_pay3 _ (countsAt m c n _)
      rw [counts_at c n]
    · rw [show outsAt0 m c (n + 1) h = _ from outsAt0_B m c ⟨n + 1, h⟩ h0 h1]; dsimp only; rw [counts_B]
      show k0_pay3 _ (outsAt0 m c n _).2.2.2.2 = k0_pay3 _ (countsAt m c n _)
      rw [counts_at c n]

/-- After any point but the last the loss block is the running loss. -/
theorem loss_at (c : Dev nD) : ∀ (n : ℕ) (h : n < cfg0.N), n < 15 → (outsAt0 m c n h).2.2.1 = lossAt m c n h
  | 0, h, _ => by
    rw [show outsAt0 m c 0 h = _ from outsAt0_A m c ⟨0, h⟩ rfl (show ¬0 % 16 = 15 by decide)]; dsimp only; rw [loss_A]; rfl
  | n + 1, h, hl => by
    have h0 : ¬(⟨n + 1, h⟩ : Fin cfg0.N).val % 16 = 0 := by dsimp only; omega
    have h1 : ¬(⟨n + 1, h⟩ : Fin cfg0.N).val % 16 = 15 := by dsimp only; omega
    rw [show outsAt0 m c (n + 1) h = _ from outsAt0_B m c ⟨n + 1, h⟩ h0 h1]; dsimp only; rw [loss_B]
    show k0_pay2 _ (outsAt0 m c n _).2.2.1 = k0_pay2 _ (lossAt m c n _)
    rw [loss_at c n _ (by omega)]

/-- The last point. -/
abbrev lastPt : Fin cfg0.N := ⟨15, by rw [show cfg0.N = 16 from N_0]; decide⟩

/-- After the last point the loss block is the running loss, scaled. -/
theorem loss_last (c : Dev nD) : (outsAt0 m c lastPt.val lastPt.isLt).2.2.1 = k0_pay5 (lossAt m c 15 lastPt.isLt) := by
  rw [outsAt0_C m c lastPt (by decide) (by decide)]; dsimp only; rw [loss_C]
  show k0_pay5 (k0_pay2 _ (outsAt0 m c 14 _).2.2.1) = k0_pay5 (k0_pay2 _ (lossAt m c 14 _))
  rw [loss_at m c 14 _ (by decide)]

/-- After the last point the perplexity block is the perplexity of the running counts. -/
theorem perp_last (c : Dev nD) : (outsAt0 m c lastPt.val lastPt.isLt).2.2.2.1 = k0_pay4 (countsAt m c 15 lastPt.isLt) := by
  rw [outsAt0_C m c lastPt (by decide) (by decide)]; dsimp only; rw [perp_C]
  show k0_pay4 (k0_pay3 _ (outsAt0 m c 14 _).2.2.2.2) = k0_pay4 (k0_pay3 _ (countsAt m c 14 _))
  rw [counts_at m c 14]

end Cert.KernelIdeal.Vq

end
-- ==== Proof.Spec.lean ====
/-
  The mathematics of one token and of all tokens, over the extended reals: the squared distance of a token to a
  code, the first nearest code, its one-hot row, and the facts both programs' proofs rest on.
-/
module

public import Idealize.ShloMosaic.PureOps.Ideal.Laws

@[expose] public section

noncomputable section

namespace Cert.Vq

open scoped BigOperators

/-- The expanded squared distance of the token `x` to code `k` of the book `E`. -/
def dist (x : Fin 64 → EReal) (E : Fin 1024 → Fin 64 → EReal) (k : Fin 1024) : EReal :=
  (∑ c, x c * x c + ∑ c, E k c * E k c) - 2 * ∑ c, x c * E k c

/-- `k` is the first index at which `d` is least. -/
def IsFirst (d : Fin 1024 → EReal) (k : Fin 1024) : Prop := (∀ j, d k ≤ d j) ∧ ∀ j, j < k → d k < d j

/-- A first least index exists. -/
theorem exists_first (d : Fin 1024 → EReal) : ∃ k, IsFirst d k := by
  classical
  obtain ⟨a, -, ha⟩ := Finset.exists_min_image Finset.univ d ⟨0, Finset.mem_univ _⟩
  let S : Finset (Fin 1024) := Finset.univ.filter fun k => ∀ j, d k ≤ d j
  have hS : S.Nonempty := ⟨a, by simp only [S, Finset.mem_filter, Finset.mem_univ, true_and]; exact fun j => ha j (Finset.mem_univ _)⟩
  have hm : ∀ j, d (S.min' hS) ≤ d j := (Finset.mem_filter.mp (S.min'_mem hS)).2
  refine ⟨S.min' hS, hm, fun j hj => lt_of_le_of_ne (hm j) fun he => ?_⟩
  have : j ∈ S := by
    simp only [S, Finset.mem_filter, Finset.mem_univ, true_and]
    exact fun i => he ▸ hm i
  exact absurd (S.min'_le j this) (not_le.mpr hj)

/-- The first least index is unique. -/
theorem IsFirst.unique {d : Fin 1024 → EReal} {k k' : Fin 1024} (h : IsFirst d k) (h' : IsFirst d k') : k = k' := by
  rcases lt_trichotomy k k' with hl | he | hl
  · exact absurd (h.1 k') (not_le.mpr (h'.2 k hl))
  · exact he
  · exact absurd (h'.1 k) (not_le.mpr (h.2 k' hl))

/-- The first least index of `d`. -/
def first (d : Fin 1024 → EReal) : Fin 1024 := (exists_first d).choose

/-- It is one. -/
theorem first_spec (d : Fin 1024 → EReal) : IsFirst d (first d) := (exists_first d).choose_spec

/-- The least value is the infimum. -/
theorem inf_eq_first (d : Fin 1024 → EReal) : Finset.univ.inf d = d (first d) :=
  le_antisymm (Finset.inf_le (Finset.mem_univ _)) (Finset.le_inf fun j _ => (first_spec d).1 j)

/-- The first least index is the infimum of the indices at which `d` is least, the others standing at 1024. -/
theorem inf_index_eq_first (d : Fin 1024 → EReal) :
    (Finset.univ.inf fun j : Fin 1024 => if d j = d (first d) then ((j.val : ℝ) : EReal) else ((1024 : ℝ) : EReal))
      = (((first d).val : ℝ) : EReal) := by
  refine le_antisymm ((Finset.inf_le (Finset.mem_univ (first d))).trans (by rw [if_pos rfl])) (Finset.le_inf fun j _ => ?_)
  split
  · next h =>
    have : first d ≤ j := not_lt.mp fun hl => absurd h (ne_of_gt ((first_spec d).2 j hl))
    exact EReal.coe_le_coe_iff.mpr (Nat.cast_le.mpr this)
  · exact EReal.coe_le_coe_iff.mpr (by have := (first d).isLt; exact_mod_cast this.le)

/-- The one-hot row of the first least index. -/
def hotRow (d : Fin 1024 → EReal) (k : Fin 1024) : EReal := if k = first d then 1 else 0

/-- A one-hot row times a column picks the column's entry. -/
theorem sum_hotRow (d : Fin 1024 → EReal) (f : Fin 1024 → EReal) : ∑ k, hotRow d k * f k = f (first d) := by
  rw [Finset.sum_eq_single (first d)]
  · rw [hotRow, if_pos rfl, one_mul]
  · intro k _ hk; rw [hotRow, if_neg hk, zero_mul]
  · intro h; exact absurd (Finset.mem_univ _) h

/-- The extended reals' sum of reals is the real sum. -/
theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Of real tokens and codes the expanded distance is the sum of squared differences. -/
theorem sum_sq_eq_dist (x : Fin 64 → EReal) (E : Fin 1024 → Fin 64 → EReal) (k : Fin 1024)
    (hx : ∀ c, ∃ r : ℝ, x c = r) (hE : ∀ c, ∃ r : ℝ, E k c = r) :
    ∑ c, (E k c - x c) * (E k c - x c) = dist x E k := by
  choose a ha using hx
  choose b hb using hE
  have h2 : (2 : EReal) = ((2 : ℝ) : EReal) := rfl
  simp only [dist, ha, hb, h2, ← EReal.coe_sub, ← EReal.coe_mul, ← EReal.coe_add, ← coe_sum_real]
  congr 1
  rw [Finset.mul_sum, ← Finset.sum_add_distrib, ← Finset.sum_sub_distrib]
  exact Finset.sum_congr rfl fun c _ => by ring

/-- Of real values the difference added back gives the value. -/
theorem add_sub_real {x q : EReal} (hx : ∃ r : ℝ, x = r) (hq : ∃ r : ℝ, q = r) : x + (q - x) = q := by
  obtain ⟨a, rfl⟩ := hx
  obtain ⟨b, rfl⟩ := hq
  rw [← EReal.coe_sub, ← EReal.coe_add]
  congr 1; ring

/-- The distance of reals is real. -/
theorem dist_real (x : Fin 64 → EReal) (E : Fin 1024 → Fin 64 → EReal) (k : Fin 1024)
    (hx : ∀ c, ∃ r : ℝ, x c = r) (hE : ∀ c, ∃ r : ℝ, E k c = r) : ∃ r : ℝ, dist x E k = r := by
  choose a ha using hx
  choose b hb using hE
  have h2 : (2 : EReal) = ((2 : ℝ) : EReal) := rfl
  exact ⟨_, by simp only [dist, ha, hb, h2, ← EReal.coe_sub, ← EReal.coe_mul, ← EReal.coe_add, ← coe_sum_real]; rfl⟩

/-- The distances of the token in row `n` of `X` to every code. -/
def dists (X : Fin 65536 → Fin 64 → EReal) (E : Fin 1024 → Fin 64 → EReal) (n : Fin 65536) : Fin 1024 → EReal :=
  dist (X n) E

/-- The sum over all tokens of the least distance. -/
def total (X : Fin 65536 → Fin 64 → EReal) (E : Fin 1024 → Fin 64 → EReal) : EReal :=
  ∑ n, dists X E n (first (dists X E n))

/-- The number of tokens code `k` is the first nearest of. -/
def count (X : Fin 65536 → Fin 64 → EReal) (E : Fin 1024 → Fin 64 → EReal) (k : Fin 1024) : EReal :=
  ∑ n, hotRow (dists X E n) k

/-- Row `4096 t + r` of the tokens. -/
def rowOf (t : Fin 16) (r : Fin 4096) : Fin 65536 := ⟨t.val * 4096 + r.val, by omega⟩

/-- A sum over all tokens is the sum over the sixteen blocks of the sums over their rows. -/
theorem sum_blocks (f : Fin 65536 → EReal) : ∑ n, f n = ∑ t : Fin 16, ∑ r : Fin 4096, f (rowOf t r) := by
  rw [← Fintype.sum_prod_type' (f := fun t r => f (rowOf t r))]
  refine (Fintype.sum_bijective (fun p : Fin 16 × Fin 4096 => rowOf p.1 p.2) ⟨?_, ?_⟩ _ _ fun _ => rfl).symm
  · rintro ⟨t, r⟩ ⟨t', r'⟩ h
    have h := congrArg Fin.val h
    simp only [rowOf] at h
    have : t.val = t'.val ∧ r.val = r'.val := by omega
    exact Prod.ext (Fin.ext this.1) (Fin.ext this.2)
  · intro n
    exact ⟨(⟨n.val / 4096, by omega⟩, ⟨n.val % 4096, by omega⟩), Fin.ext (by simp only [rowOf]; omega)⟩

/-- The sum of `f` over the first `n` blocks' rows. -/
def partialSum (f : Fin 16 → EReal) (n : ℕ) : EReal := ∑ t : Fin 16, if t.val < n then f t else 0

/-- No blocks: nothing. -/
theorem partialSum_zero (f : Fin 16 → EReal) : partialSum f 0 = 0 := by simp [partialSum]

/-- One block more. -/
theorem partialSum_succ (f : Fin 16 → EReal) (t : Fin 16) : partialSum f (t.val + 1) = partialSum f t.val + f t := by
  unfold partialSum
  rw [← Finset.sum_erase_add _ _ (Finset.mem_univ t), ← Finset.sum_erase_add Finset.univ (fun i : Fin 16 => if i.val < t.val then f i else 0) (Finset.mem_univ t),
    if_pos (Nat.lt_succ_self _), if_neg (lt_irrefl _), add_zero]
  congr 1
  refine Finset.sum_congr rfl fun i hi => ?_
  have hne : i.val ≠ t.val := fun h => (Finset.ne_of_mem_erase hi) (Fin.ext h)
  by_cases h : i.val < t.val
  · rw [if_pos h, if_pos (by omega)]
  · rw [if_neg h, if_neg (by omega)]

/-- All blocks: the whole sum. -/
theorem partialSum_all (f : Fin 16 → EReal) : partialSum f 16 = ∑ t, f t :=
  Finset.sum_congr rfl fun t _ => if_pos t.isLt

end Cert.Vq

end
-- ==== Proof.Block.lean ====
/-
  What one grid point computes, at the ideal values: the distances of its 4096 tokens to the 1024 codes, the least of
  each row, the one-hot row of the first least index, the selected codes, and what it adds to the running sums.
-/
module

public import proofs.«01_k».proof.Proof.Spec
public import proofs.«01_k».proof.Proof.Gen.KernelIdeal.Skeleton
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.IdealHost

@[expose] public section

noncomputable section

namespace Cert.KernelIdeal.Vq

open Cert.KernelIdeal Cert.KernelIdeal.Gen Idealize.ShloMosaic Idealize.ShloMosaic.ValueIdx
open Cert.Vq (dist first hotRow)
open scoped BigOperators

/-- A fold of the minimum from positive infinity is the infimum. -/
theorem fold_min_eq_inf {ι : Type} (s : Finset ι) (f : ι → Ideal .f32) :
    s.fold FloatOps.minimumf ((⊤ : EReal) : Ideal .f32) f = s.inf (fun k => (f k : EReal)) := by
  classical
  induction s using Finset.induction_on with
  | empty => rfl
  | insert a s ha ih => rw [Finset.fold_insert ha, Finset.inf_insert, ih]; rfl

/-- A minimum over one axis, started at positive infinity, is the infimum over the axis's coordinates. -/
theorem minReduce_single {s t : Shape} {a : Fin s.rank} (src : FVec Ideal s .f32) (acc : BitVec FTy.f32.bits)
    (ht : Ideal.ofBits .f32 acc = ⊤) (h : s.Reduces [a] t) (hφ : FKind.Formats .f32) (hacc : acc = FKind.minimumf.neutral .f32 hφ)
    (j : t.Idx) :
    multiReduction .minimumf [a] t src acc h hφ hacc j
      = Finset.univ.inf (fun k : Fin (s.size a) => (src (h.lift j k) : EReal)) := by
  rw [multiReduction_minimumf_eq_fold]
  refine (h.fold_filter_drop_single _ _ src j).trans ?_
  rw [Ideal.ofBits_def, ht]
  exact fold_min_eq_inf Finset.univ (src ∘ h.lift j)

/-- The word of positive infinity. -/
theorem top_f32 : Ideal.ofBits .f32 0x7F800000#32 = ⊤ := by simp [Ideal.ofBits, Ideal.ieee]

/-- A minimum over the second axis, started at positive infinity, is the row's infimum. -/
theorem rowMin_apply (src : FVec Ideal S4096x1024 .f32) (hφ : FKind.Formats .f32)
    (hacc : (0x7F800000#32 : BitVec FTy.f32.bits) = FKind.minimumf.neutral .f32 hφ) (r : Fin 4096) :
    multiReduction .minimumf [1] S4096 src 0x7F800000#32 reduces_S4096x1024_S4096 hφ hacc (ix1 r)
      = (Finset.univ : Finset (Fin 1024)).inf (fun k => (src (ix2 r k) : EReal)) := by
  refine (minReduce_single src _ top_f32 reduces_S4096x1024_S4096 hφ hacc (ix1 r)).trans ?_
  refine Finset.inf_congr rfl fun k _ => ?_
  have : reduces_S4096x1024_S4096.lift (ix1 r) k = ix2 r k :=
    funext fun a => match a with | ⟨0, _⟩ => rfl | ⟨1, _⟩ => rfl
  exact congrArg src this

/-- A column of per-row values broadcast along the rows. -/
theorem bcastCol_apply (v : FVec Ideal S4096x1 .f32) (r : Fin 4096) (k : Fin 1024) :
    broadcastTo S4096x1024 v broadcasts_S4096x1_S4096x1024 (ix2 r k) = v (ix2 r (0 : Fin 1)) := by
  refine broadcastTo_apply v _ (ix2 r k) (ix2 r (0 : Fin 1)) fun ax => ?_
  match ax with
  | ⟨0, _⟩ => rfl
  | ⟨1, _⟩ => rfl

/-- Row `r` of a block of tokens. -/
def rowAt (x : FVec Ideal S4096x64 .f32) (r : Fin 4096) : Fin 64 → EReal := fun c => x (ix2 r c)

/-- The codes, read off the transposed book. -/
def bookT (et : FVec Ideal S64x1024 .f32) : Fin 1024 → Fin 64 → EReal := fun k c => et (ix2 c k)

/-- The word of two. -/
theorem two_f32 : Ideal.ofBits .f32 0x40000000#32 = (2 : EReal) := by
  have : Ideal.ofBits .f32 0x40000000#32 = ((2 : ℝ) : EReal) := by
    simp [Ideal.ofBits, Ideal.ieee, -EReal.coe_mul]; norm_num
  rw [this]; rfl

/-- The word of 1024. -/
theorem k1024_f32 : Ideal.ofBits .f32 0x44800000#32 = ((1024 : ℝ) : EReal) := by
  simp [Ideal.ofBits, Ideal.ieee, -EReal.coe_mul]; norm_num

/-- The point's distance block holds each token's distance to each code. -/
theorem pay8_apply (x : FVec Ideal S4096x64 .f32) (et : FVec Ideal S64x1024 .f32) (r : Fin 4096) (k : Fin 1024) :
    k0_pay8 (F := Ideal) x et (ix2 r k) = dist (rowAt x r) (bookT et) k := by
  have hx : multiReduction .add [1] S4096 (mulf x x) 0x00000000#32 reduces_S4096x64_S4096 (.inl rfl) rfl (ix1 r)
      = ∑ c, rowAt x r c * rowAt x r c := by
    refine (Ideal.multiReduction_add_single (mulf x x) _ reduces_S4096x64_S4096 _ _ _).trans ?_
    refine Finset.sum_congr rfl fun c _ => ?_
    have : reduces_S4096x64_S4096.lift (ix1 r) c = ix2 r c :=
      funext fun a => match a with | ⟨0, _⟩ => rfl | ⟨1, _⟩ => rfl
    rw [this]; rfl
  have he : multiReduction .add [0] S1024 (mulf et et) 0x00000000#32 reduces_S64x1024_S1024 (.inl rfl) rfl (ix1 k)
      = ∑ c, bookT et k c * bookT et k c := by
    refine (Ideal.multiReduction_add_single (mulf et et) _ reduces_S64x1024_S1024 _ _ _).trans ?_
    refine Finset.sum_congr rfl fun c _ => ?_
    have : reduces_S64x1024_S1024.lift (ix1 k) c = ix2 c k :=
      funext fun a => match a with | ⟨0, _⟩ => rfl | ⟨1, _⟩ => rfl
    rw [this]; rfl
  have hm : matmul dot_S4096x64_S64x1024_S4096x1024_1_0_0_1_n_n none x et (constant S4096x1024 .f32 0x00000000#32) (ix2 r k)
      = ∑ c, rowAt x r c * bookT et k c := by
    refine (Ideal.matmul_plain_apply (M := 4096) (K := 64) (N := 1024) none x et _ r k).trans ?_
    rw [show (constant S4096x1024 .f32 0x00000000#32 : FVec Ideal S4096x1024 .f32) (ix2 r k) = 0 from Ideal.ofBits_zero_f32, zero_add]
    rfl
  unfold k0_pay8
  simp only [shapeCast_self, subf_apply, addf_apply, mulf_apply, broadcast_apply, Ideal.subf_def, Ideal.addf_def, Ideal.mulf_def]
  rw [bcastCol_apply, broadcastTo_1b_ab_apply, shapeCast_a_a1_apply, shapeCast_a_1a_apply]
  rw [hx, he, hm, show (Scalar.ofBits .f32 0x40000000#32 : Ideal .f32) = 2 from two_f32]
  rfl

/-- The point's least distances. -/
theorem pay9_apply (x : FVec Ideal S4096x64 .f32) (et : FVec Ideal S64x1024 .f32) (r : Fin 4096) :
    k0_pay9 (F := Ideal) x et (ix2 r (0 : Fin 1)) = dist (rowAt x r) (bookT et) (first (dist (rowAt x r) (bookT et))) := by
  unfold k0_pay9
  refine (shapeCast_a_a1_apply _ _ r 0).trans ((rowMin_apply (k0_pay8 x et) _ _ r).trans ?_)
  rw [← Cert.Vq.inf_eq_first (dist (rowAt x r) (bookT et))]
  simp only [pay8_apply]

/-- A comparison for equality, widened and read as a float, is one or zero. -/
theorem eq_flag (a b : EReal) :
    (FloatOps.sitofp .f32 ((FloatOps.cmpf (F := Ideal) (φ := .f32) .oeq a b).setWidth 32) : Ideal .f32) = if a = b then (1 : EReal) else 0 := by
  rw [Ideal.cmpf_def, Ideal.cmp]
  by_cases h : a = b
  · rw [if_pos h]; simp only [h, decide_true]
    show (((1#32 : BitVec 32).toInt : ℝ) : EReal) = 1
    norm_num
  · rw [if_neg h]; simp only [h, decide_false]
    show (((0#32 : BitVec 32).toInt : ℝ) : EReal) = 0
    norm_num

/-- The same, of whole blocks. -/
theorem flag_apply (a b : FVec Ideal S4096x1024 .f32) (i : S4096x1024.Idx) :
    (sitofp .f32 (extui 32 (cmpf .oeq a b) natLt_1_32) : FVec Ideal S4096x1024 .f32) i = if (a i : EReal) = b i then (1 : EReal) else 0 :=
  eq_flag (a i) (b i)

/-- The word of a small natural number, read as a float. -/
theorem sitofp_small (k : ℕ) (h : k < 1024) : (FloatOps.sitofp .f32 (BitVec.ofNat 32 k) : Ideal .f32) = ((k : ℝ) : EReal) := by
  show (((BitVec.ofNat 32 k).toInt : ℝ) : EReal) = _
  have : (BitVec.ofNat 32 k).toInt = (k : ℤ) := by
    rw [BitVec.toInt_eq_toNat_of_lt (by rw [BitVec.toNat_ofNat]; omega), BitVec.toNat_ofNat, Nat.mod_eq_of_lt (by omega)]
  rw [this]; simp

/-- The index row the point counts with. -/
theorem indexRow_apply (j : Fin 1024) :
    (sitofp .f32 (iota .tc S1x1024 32 [1] iota_S1x1024_d1_w32) : FVec Ideal S1x1024 .f32) (ix2 (0 : Fin 1) j) = ((j.val : ℝ) : EReal) := by
  rw [sitofp_apply, iota_single_apply]
  exact sitofp_small j.val j.isLt

/-- A choice by an equality. -/
theorem select_eq (a b x y : EReal) :
    Scalar.select (FloatOps.cmpf (F := Ideal) (φ := .f32) .oeq a b) x y = if a = b then x else y := by
  rw [Ideal.cmpf_def, Ideal.cmp]
  by_cases h : a = b
  · rw [if_pos h]; simp only [h, decide_true]; exact select_one _ _
  · rw [if_neg h]; simp only [h, decide_false]; exact select_zero _ _

/-- The candidate indices of a row: the index where the distance is least, 1024 elsewhere. -/
theorem cand_apply (d : FVec Ideal S4096x1024 .f32) (l : FVec Ideal S4096x1 .f32) (i : FVec Ideal S1x1024 .f32) (z : Ideal .f32)
    (r : Fin 4096) (j : Fin 1024) :
    select (cmpf .oeq d (broadcastTo S4096x1024 l broadcasts_S4096x1_S4096x1024))
        (broadcastTo S4096x1024 i broadcasts_S1x1024_S4096x1024) (broadcast S4096x1024 z) (ix2 r j)
      = if (d (ix2 r j) : EReal) = l (ix2 r (0 : Fin 1)) then (i (ix2 (0 : Fin 1) j) : EReal) else z := by
  rw [select_apply, cmpf_apply, bcastCol_apply, broadcastTo_1b_ab_apply, broadcast_apply]
  exact select_eq _ _ _ _

/-- The point's one-hot block. -/
theorem pay10_apply (x : FVec Ideal S4096x64 .f32) (et : FVec Ideal S64x1024 .f32) (r : Fin 4096) (k : Fin 1024) :
    k0_pay10 (F := Ideal) x et (ix2 r k) = hotRow (dist (rowAt x r) (bookT et)) k := by
  unfold k0_pay10
  refine (flag_apply _ _ _).trans ?_
  rw [bcastCol_apply, broadcastTo_1b_ab_apply, shapeCast_a_a1_apply]
  rw [hotRow]
  refine if_congr ?_ rfl rfl
  have h2 : ∀ j : Fin 1024, (if (k0_pay8 (F := Ideal) x et (ix2 r j) : EReal) = k0_pay9 (F := Ideal) x et (ix2 r (0 : Fin 1))
      then ((j.val : ℝ) : EReal) else ((1024 : ℝ) : EReal))
      = if dist (rowAt x r) (bookT et) j = dist (rowAt x r) (bookT et) (first (dist (rowAt x r) (bookT et)))
        then ((j.val : ℝ) : EReal) else ((1024 : ℝ) : EReal) := fun j => by rw [pay8_apply, pay9_apply]
  have h1 := Cert.Vq.inf_index_eq_first (dist (rowAt x r) (bookT et))
  have h3 : (((k.val : ℝ)) : EReal) = (((first (dist (rowAt x r) (bookT et))).val : ℝ) : EReal) ↔ k = first (dist (rowAt x r) (bookT et)) := by
    rw [EReal.coe_eq_coe_iff, Nat.cast_inj]
    exact Fin.ext_iff.symm
  refine Iff.trans ?_ h3
  refine iff_of_eq (congrArg₂ Eq (indexRow_apply k) ?_)
  refine (rowMin_apply _ _ _ r).trans ((Finset.inf_congr rfl fun j _ => ?_).trans h1)
  rw [← h2 j]
  refine (cand_apply _ _ _ _ r j).trans ?_
  rw [shapeCast_self, indexRow_apply]
  exact if_congr Iff.rfl rfl k1024_f32

/-- The point's quantised rows: the one-hot rows times the book. -/
theorem pay1_apply (h : FVec Ideal S4096x1024 .f32) (e : FVec Ideal S1024x64 .f32) (r : Fin 4096) (c : Fin 64) :
    k0_pay1 (F := Ideal) h e (ix2 r c) = ∑ k : Fin 1024, h (ix2 r k) * e (ix2 k c) := by
  unfold k0_pay1
  refine (Ideal.matmul_plain_apply (M := 4096) (K := 1024) (N := 64) none h e _ r c).trans ?_
  rw [show (constant S4096x64 .f32 0x00000000#32 : FVec Ideal S4096x64 .f32) (ix2 r c) = 0 from Ideal.ofBits_zero_f32, zero_add]

/-- The running loss: the point adds the sum of its rows' least distances. -/
theorem pay2_apply (v : FVec Ideal S4096x1 .f32) (a : FVec Ideal S1x1 .f32) :
    k0_pay2 (F := Ideal) v a (ix2 (0 : Fin 1) (0 : Fin 1)) = a (ix2 (0 : Fin 1) (0 : Fin 1)) + ∑ r : Fin 4096, v (ix2 r (0 : Fin 1)) := by
  unfold k0_pay2
  simp only [shapeCast_self, addf_apply, broadcast_apply, Ideal.addf_def]
  congr 1
  have hs : (∑ i : S1x4096x1.Idx, shapeCast S1x4096x1 v shapeCasts_S4096x1_S1x4096x1 i) = ∑ r : Fin 4096, v (ix2 r (0 : Fin 1)) := by
    have : (∑ i : S1x4096x1.Idx, shapeCast S1x4096x1 v shapeCasts_S4096x1_S1x4096x1 i) = ∑ i : S4096x1.Idx, v i :=
      Equiv.sum_comp (Shape.reshapeEquiv shapeCasts_S4096x1_S1x4096x1) v
    rw [this]
    refine (sum_idx2 v).trans ?_
    exact Finset.sum_congr rfl fun r _ => Fin.sum_univ_one _
  exact (Ideal.multiReduction_add_total (φ := .f32) (shapeCast S1x4096x1 v shapeCasts_S4096x1_S1x4096x1) 0x00000000#32 reduces_S1x4096x1_S1
    (by decide) (.inl rfl) rfl _).trans hs

/-- The running counts: the point adds its one-hot rows' column sums. -/
theorem pay3_apply (h : FVec Ideal S4096x1024 .f32) (a : FVec Ideal S1x1024 .f32) (k : Fin 1024) :
    k0_pay3 (F := Ideal) h a (ix2 (0 : Fin 1) k) = a (ix2 (0 : Fin 1) k) + ∑ r : Fin 4096, h (ix2 r k) := by
  unfold k0_pay3
  simp only [shapeCast_self, addf_apply, Ideal.addf_def]
  rw [shapeCast_a_1a_apply]
  congr 1
  refine (Ideal.multiReduction_add_single h _ reduces_S4096x1024_S1024 _ _ _).trans ?_
  exact Finset.sum_congr rfl fun r _ =>
    congrArg h (funext fun a => match a with | ⟨0, _⟩ => rfl | ⟨1, _⟩ => rfl)

/-- The running loss starts at zero. -/
theorem pay6_apply : (k0_pay6 (F := Ideal)) (ix2 (0 : Fin 1) (0 : Fin 1)) = 0 := Ideal.ofBits_zero_f32

/-- The running counts start at zero. -/
theorem pay7_apply (k : Fin 1024) : (k0_pay7 (F := Ideal)) (ix2 (0 : Fin 1) k) = 0 := by
  unfold k0_pay7
  simp only [shapeCast_self, broadcast_apply]
  exact Ideal.ofBits_zero_f32

/-- The loss's factor, 1.25 / 2^22. -/
def lossScale : EReal := ((5 / 16777216 : ℝ) : EReal)

/-- The last point scales the running loss. -/
theorem pay5_apply (a : FVec Ideal S1x1 .f32) :
    k0_pay5 (F := Ideal) a (ix2 (0 : Fin 1) (0 : Fin 1)) = a (ix2 (0 : Fin 1) (0 : Fin 1)) * lossScale := by
  unfold k0_pay5
  simp only [shapeCast_self, mulf_apply, broadcast_apply, Ideal.mulf_def]
  congr 1
  show Ideal.ofBits .f32 0x34A00000#32 = _
  simp [Ideal.ofBits, Ideal.ieee, lossScale, -EReal.coe_mul]; norm_num

/-- The perplexity of counts `n`. -/
def perplexity (n : Fin 1024 → EReal) : EReal :=
  Ideal.exp (- ∑ k, (n k * ((1 / 65536 : ℝ) : EReal)) * Ideal.log (n k * ((1 / 65536 : ℝ) : EReal) + Ideal.ofBits .f32 0x2EDBE6FF#32))

/-- The last point's perplexity. -/
theorem pay4_apply (a : FVec Ideal S1x1024 .f32) :
    k0_pay4 (F := Ideal) a (ix2 (0 : Fin 1) (0 : Fin 1)) = perplexity fun k => a (ix2 (0 : Fin 1) k) := by
  have hc : (Scalar.ofBits .f32 0x37800000#32 : Ideal .f32) = ((1 / 65536 : ℝ) : EReal) := by
    show Ideal.ofBits .f32 0x37800000#32 = _
    simp [Ideal.ofBits, Ideal.ieee, -EReal.coe_mul]; norm_num
  unfold k0_pay4 perplexity
  show Ideal.exp (Ideal.ofBits .f32 0x00000000#32 - shapeCast S1x1 _ shapeCasts_S1_S1x1 (ix2 (0 : Fin 1) (0 : Fin 1))) = _
  rw [Ideal.ofBits_zero_f32, zero_sub, shapeCast_a_1a_apply]
  congr 2
  refine (Ideal.multiReduction_add_single _ _ reduces_S1x1024_S1 _ _ _).trans ?_
  refine Finset.sum_congr rfl fun k _ => ?_
  have : reduces_S1x1024_S1.lift (ix1 (0 : Fin 1)) k = ix2 (0 : Fin 1) k :=
    funext fun a => match a with | ⟨0, _⟩ => rfl | ⟨1, _⟩ => rfl
  rw [this, hc]
  rfl

end Cert.KernelIdeal.Vq

end
-- ==== Proof.Arrays.lean ====
/-
  What the kernel's four output arrays hold after the whole grid, over its tokens and its codebook: each token's first
  nearest code, the one-hot rows, the scaled sum of the least distances, and the perplexity of the code counts.
-/
module

public import proofs.«01_k».proof.Proof.Points
public import proofs.«01_k».proof.Proof.Block
public import Idealize.ShloMosaic.Lib.Pipeline.Value

@[expose] public section

noncomputable section

namespace Cert.KernelIdeal.Vq

open Cert.KernelIdeal Cert.KernelIdeal.Gen Idealize.ShloMosaic Idealize.ShloMosaic.TcCoe Idealize.SL.Sem Idealize.ShloMosaic.ValueIdx
open Idealize.ShloMosaic.Pipeline (Dat)
open Cert.Vq (dist first hotRow rowOf dists total count partialSum)
open scoped BigOperators

variable (m : (ℓ : Loc nD τ sig) → Buf (Elt Ideal) ℓ)

/-- The tokens the region finds, row by row. -/
def tokens (c : Dev nD) : Fin 65536 → Fin 64 → EReal := fun n ch => (V m c main_v1 : FVec Ideal S65536x64 .f32) (ix2 n ch)

/-- The codebook the region finds. -/
def book (c : Dev nD) : Fin 1024 → Fin 64 → EReal := fun k ch => (V m c main_arg1 : FVec Ideal S1024x64 .f32) (ix2 k ch)

/-- The transposed codebook the region finds is the codebook transposed. -/
theorem V_main_v2 (c : Dev nD) :
    (V m c main_v2 : FVec Ideal S64x1024 .f32)
      = transpose S64x1024 [1, 0] (m ((c : Thread nD τ).loc main_arg1) : FVec Ideal S1024x64 .f32) transposes_S1024x64_S64x1024_1_0 := by
  show StableHlo.after (List.flatten [hostOps0]) (fun b => m (c, b)) (Proc.devRef .tc main_v2) = _
  simp only [hostOps0, List.flatten_cons, List.flatten_nil, List.append_nil, List.cons_append, List.nil_append]
  after_results

/-- The tokens the region finds are the input with its channels last, flattened. -/
theorem V_main_v1 (c : Dev nD) :
    (V m c main_v1 : FVec Ideal S65536x64 .f32)
      = shapeCast S65536x64 (transpose S4x16x32x32x64 [0, 2, 3, 4, 1] (m ((c : Thread nD τ).loc main_arg0) : FVec Ideal S4x64x16x32x32 .f32)
          transposes_S4x64x16x32x32_S4x16x32x32x64_0_2_3_4_1) shapeCasts_S4x16x32x32x64_S65536x64 := by
  show StableHlo.after (List.flatten [hostOps0]) (fun b => m (c, b)) (Proc.devRef .tc main_v1) = _
  simp only [hostOps0, List.flatten_cons, List.flatten_nil, List.append_nil, List.cons_append, List.nil_append]
  after_results
  rfl

/-- A point's number. -/
def num (t : Fin cfg0.N) : Fin 16 := ⟨t.val, lt_of_lt_of_eq t.isLt N_0⟩

/-- The three input windows' block indices. -/
theorem inIdx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) :=
  (by decide +kernel : ∀ t : Fin grid0.N, _)

/-- The row blocks' indices of the two row-wise outputs. -/
theorem outIdx : ∀ t : Fin cfg0.N, (win0_3.index t 0 = t.val ∧ win0_3.index t 1 = 0) ∧ (win0_4.index t 0 = t.val ∧ win0_4.index t 1 = 0)
    ∧ (win0_5.index t 0 = 0 ∧ win0_5.index t 1 = 0) ∧ (win0_6.index t 0 = 0 ∧ win0_6.index t 1 = 0) :=
  (by decide +kernel : ∀ t : Fin grid0.N, _)

/-- The token block of point `t` holds rows `4096 t …` of the tokens. -/
theorem rowAt_iblk (c : Dev nD) (t : Fin cfg0.N) (r : Fin 4096) :
    rowAt (iblk m c 0 t) r = tokens m c (rowOf (num t) r) := by
  funext ch
  show iblk m c 0 t (ix2 r ch) = (V m c main_v1 : FVec Ideal S65536x64 .f32) (ix2 (rowOf (num t) r) ch)
  unfold iblk
  rw [View.read_apply]
  show (V m c main_v1 : FVec Ideal S65536x64 .f32) _ = _
  congr 1
  obtain ⟨⟨e0, e1⟩, -⟩ := inIdx t
  funext a
  apply Fin.ext
  match a with
  | ⟨0, _⟩ =>
    show win0_0.index t 0 * 4096 + 1 * r.val = t.val * 4096 + r.val
    omega
  | ⟨1, _⟩ =>
    show win0_0.index t 1 * 64 + 1 * ch.val = ch.val
    omega

/-- The codebook block of any point is the codebook. -/
theorem iblk_book (c : Dev nD) (t : Fin cfg0.N) (k : Fin 1024) (ch : Fin 64) :
    (iblk m c 1 t : FVec Ideal S1024x64 .f32) (ix2 k ch) = book m c k ch := by
  show iblk m c 1 t (ix2 k ch) = (V m c main_arg1 : FVec Ideal S1024x64 .f32) (ix2 k ch)
  unfold iblk
  rw [View.read_apply]
  show (V m c main_arg1 : FVec Ideal S1024x64 .f32) _ = _
  congr 1
  obtain ⟨-, ⟨e0, e1⟩, -⟩ := inIdx t
  funext a
  apply Fin.ext
  match a with
  | ⟨0, _⟩ =>
    show win0_1.index t 0 * 1024 + 1 * k.val = k.val
    omega
  | ⟨1, _⟩ =>
    show win0_1.index t 1 * 64 + 1 * ch.val = ch.val
    omega

/-- The transposed codebook block of any point is the codebook, read transposed. -/
theorem bookT_iblk (c : Dev nD) (t : Fin cfg0.N) : bookT (iblk m c 2 t) = book m c := by
  funext k ch
  show iblk m c 2 t (ix2 ch k) = (V m c main_arg1 : FVec Ideal S1024x64 .f32) (ix2 k ch)
  have h : iblk m c 2 t (ix2 ch k) = (V m c main_v2 : FVec Ideal S64x1024 .f32) (ix2 ch k) := by
    unfold iblk
    rw [View.read_apply]
    show (V m c main_v2 : FVec Ideal S64x1024 .f32) _ = _
    congr 1
    obtain ⟨-, -, ⟨e0, e1⟩⟩ := inIdx t
    funext a
    apply Fin.ext
    match a with
    | ⟨0, _⟩ =>
      show win0_2.index t 0 * 64 + 1 * ch.val = ch.val
      omega
    | ⟨1, _⟩ =>
      show win0_2.index t 1 * 1024 + 1 * k.val = k.val
      omega
  rw [h, V_main_v2, V_main_arg1]
  exact transpose_ix2_apply _ _ _ _

/-- The distances point `t` computes for its row `r`. -/
abbrev distOf (c : Dev nD) (n : Fin 65536) : Fin 1024 → EReal := dists (tokens m c) (book m c) n

/-- Point `t`'s one-hot block. -/
theorem onehotAt_apply (c : Dev nD) (t : Fin cfg0.N) (r : Fin 4096) (k : Fin 1024) :
    onehotAt m c t (ix2 r k) = hotRow (distOf m c (rowOf (num t) r)) k := by
  refine (pay10_apply _ _ r k).trans ?_
  rw [rowAt_iblk, bookT_iblk]
  rfl

/-- Point `t`'s least distances. -/
theorem leastAt_apply (c : Dev nD) (t : Fin cfg0.N) (r : Fin 4096) :
    leastAt m c t (ix2 r (0 : Fin 1)) = distOf m c (rowOf (num t) r) (first (distOf m c (rowOf (num t) r))) := by
  refine (pay9_apply _ _ r).trans ?_
  rw [rowAt_iblk, bookT_iblk]
  rfl

/-- Point `t`'s quantised rows are its tokens' first nearest codes. -/
theorem quantAt_apply (c : Dev nD) (t : Fin cfg0.N) (r : Fin 4096) (ch : Fin 64) :
    k0_pay1 (F := Ideal) (onehotAt m c t) (iblk m c 1 t) (ix2 r ch) = book m c (first (distOf m c (rowOf (num t) r))) ch := by
  refine (pay1_apply _ _ r ch).trans ?_
  refine Eq.trans (Finset.sum_congr rfl fun k _ => ?_)
    (Cert.Vq.sum_hotRow (distOf m c (rowOf (num t) r)) fun k => book m c k ch)
  exact congrArg₂ (fun a b : EReal => a * b) (onehotAt_apply m c t r k) (iblk_book m c t k ch)

/-- The sum of point `t`'s least distances. -/
def blockLoss (c : Dev nD) (t : Fin 16) : EReal := ∑ r : Fin 4096, distOf m c (rowOf t r) (first (distOf m c (rowOf t r)))

/-- The number of point `t`'s tokens whose first nearest code is `k`. -/
def blockCount (c : Dev nD) (k : Fin 1024) (t : Fin 16) : EReal := ∑ r : Fin 4096, hotRow (distOf m c (rowOf t r)) k

/-- The running loss after point `n` is the sum over the points up to it. -/
theorem lossAt_apply (c : Dev nD) : ∀ (n : ℕ) (h : n < cfg0.N),
    (lossAt m c n h : FVec Ideal S1x1 .f32) (ix2 (0 : Fin 1) (0 : Fin 1)) = partialSum (blockLoss m c) (n + 1)
  | 0, h => by
    refine (pay2_apply _ _).trans ?_
    rw [pay6_apply]
    refine Eq.trans ?_ (Cert.Vq.partialSum_succ (blockLoss m c) (num ⟨0, h⟩)).symm
    refine congrArg₂ (fun a b : EReal => a + b) (Cert.Vq.partialSum_zero (blockLoss m c)).symm ?_
    exact Finset.sum_congr rfl fun r _ => leastAt_apply m c ⟨0, h⟩ r
  | n + 1, h => by
    refine (pay2_apply _ _).trans ?_
    refine Eq.trans ?_ (Cert.Vq.partialSum_succ (blockLoss m c) (num ⟨n + 1, h⟩)).symm
    refine congrArg₂ (fun a b : EReal => a + b) (lossAt_apply c n _) ?_
    exact Finset.sum_congr rfl fun r _ => leastAt_apply m c ⟨n + 1, h⟩ r

/-- The running counts after point `n` are the sums over the points up to it. -/
theorem countsAt_apply (c : Dev nD) (k : Fin 1024) : ∀ (n : ℕ) (h : n < cfg0.N),
    (countsAt m c n h : FVec Ideal S1x1024 .f32) (ix2 (0 : Fin 1) k) = partialSum (blockCount m c k) (n + 1)
  | 0, h => by
    refine (pay3_apply _ _ k).trans ?_
    rw [pay7_apply]
    refine Eq.trans ?_ (Cert.Vq.partialSum_succ (blockCount m c k) (num ⟨0, h⟩)).symm
    refine congrArg₂ (fun a b : EReal => a + b) (Cert.Vq.partialSum_zero (blockCount m c k)).symm ?_
    exact Finset.sum_congr rfl fun r _ => onehotAt_apply m c ⟨0, h⟩ r k
  | n + 1, h => by
    refine (pay3_apply _ _ k).trans ?_
    refine Eq.trans ?_ (Cert.Vq.partialSum_succ (blockCount m c k) (num ⟨n + 1, h⟩)).symm
    refine congrArg₂ (fun a b : EReal => a + b) (countsAt_apply c k n _) ?_
    exact Finset.sum_congr rfl fun r _ => onehotAt_apply m c ⟨n + 1, h⟩ r k

/-- The loss block after the last point. -/
theorem loss_value (c : Dev nD) :
    ((outsAt0 m c lastPt.val lastPt.isLt).2.2.1 : FVec Ideal S1x1 .f32) (ix2 (0 : Fin 1) (0 : Fin 1))
      = total (tokens m c) (book m c) * lossScale := by
  rw [loss_last]
  refine (pay5_apply _).trans ?_
  rw [lossAt_apply, Cert.Vq.partialSum_all, total, Cert.Vq.sum_blocks]
  rfl

/-- The perplexity block after the last point. -/
theorem perp_value (c : Dev nD) :
    ((outsAt0 m c lastPt.val lastPt.isLt).2.2.2.1 : FVec Ideal S1x1 .f32) (ix2 (0 : Fin 1) (0 : Fin 1))
      = perplexity (count (tokens m c) (book m c)) := by
  rw [perp_last]
  refine (pay4_apply _).trans ?_
  refine congrArg perplexity (funext fun k => ?_)
  rw [countsAt_apply, Cert.Vq.partialSum_all]
  exact (Cert.Vq.sum_blocks fun n => hotRow (distOf m c n) k).symm

/-- The flattened quantised output: each token's first nearest code. -/
def quantArr (c : Dev nD) : FVec Ideal S65536x64 .f32 := fun i => book m c (first (distOf m c (i 0))) (i 1)

/-- The one-hot output. -/
def hotArr (c : Dev nD) : FVec Ideal S65536x1024 .f32 := fun i => hotRow (distOf m c (i 0)) (i 1)

/-- The loss output. -/
def lossArr (c : Dev nD) : FVec Ideal S1x1 .f32 := fun _ => total (tokens m c) (book m c) * lossScale

/-- The perplexity output. -/
def perpArr (c : Dev nD) : FVec Ideal S1x1 .f32 := fun _ => perplexity (count (tokens m c) (book m c))

/-- What a point writes back to the flattened quantised output is its block of `quantArr`. -/
theorem flushed3 (c : Dev nD) (t : Fin cfg0.N) :
    (dats m 0 c).flushed 3 t = ((cfg0.win 3).blk t).view.read (Elt Ideal) (quantArr m c) := by
  show (cfg0.win 3).cut (grid0.coords t) ((dats m 0 c).after 3 t) = _
  rw [after0_3, quant_at]
  obtain ⟨⟨e0, e1⟩, -⟩ := outIdx t
  funext y
  have hb0 : (((cfg0.win 3).blk t).view.emb y 0).val = win0_3.index t (0 : Fin 2) * 4096 + 1 * (y 0).val := rfl
  have hb1 : (((cfg0.win 3).blk t).view.emb y 1).val = win0_3.index t (1 : Fin 2) * 64 + 1 * (y 1).val := rfl
  show k0_pay1 (F := Ideal) (onehotAt m c t) (iblk m c 1 t) ((cfg0.win 3).xinj (grid0.coords t) y) = quantArr m c (((cfg0.win 3).blk t).view.emb y)
  have hl : (cfg0.win 3).xinj (grid0.coords t) y = ix2 (⟨(y 0).val, (y 0).isLt⟩ : Fin 4096) (⟨(y 1).val, (y 1).isLt⟩ : Fin 64) := by
    funext a; match a with | ⟨0, _⟩ => rfl | ⟨1, _⟩ => rfl
  have hr : ((cfg0.win 3).blk t).view.emb y = ix2 (rowOf (num t) ⟨(y 0).val, (y 0).isLt⟩) (⟨(y 1).val, (y 1).isLt⟩ : Fin 64) := by
    funext a; apply Fin.ext
    match a with
    | ⟨0, _⟩ => exact hb0.trans (by rw [e0]; show t.val * 4096 + 1 * (y 0).val = t.val * 4096 + (y 0).val; omega)
    | ⟨1, _⟩ => exact hb1.trans (by rw [e1]; show 0 * 64 + 1 * (y 1).val = (y 1).val; omega)
  rw [hl, hr]
  exact quantAt_apply m c t _ _

/-- What a point writes back to the one-hot output is its block of `hotArr`. -/
theorem flushed4 (c : Dev nD) (t : Fin cfg0.N) :
    (dats m 0 c).flushed 4 t = ((cfg0.win 4).blk t).view.read (Elt Ideal) (hotArr m c) := by
  show (cfg0.win 4).cut (grid0.coords t) ((dats m 0 c).after 4 t) = _
  rw [after0_4, onehot_at]
  obtain ⟨-, ⟨e0, e1⟩, -⟩ := outIdx t
  funext y
  have hb0 : (((cfg0.win 4).blk t).view.emb y 0).val = win0_4.index t (0 : Fin 2) * 4096 + 1 * (y 0).val := rfl
  have hb1 : (((cfg0.win 4).blk t).view.emb y 1).val = win0_4.index t (1 : Fin 2) * 1024 + 1 * (y 1).val := rfl
  show onehotAt m c t ((cfg0.win 4).xinj (grid0.coords t) y) = hotArr m c (((cfg0.win 4).blk t).view.emb y)
  have hl : (cfg0.win 4).xinj (grid0.coords t) y = ix2 (⟨(y 0).val, (y 0).isLt⟩ : Fin 4096) (⟨(y 1).val, (y 1).isLt⟩ : Fin 1024) := by
    funext a; match a with | ⟨0, _⟩ => rfl | ⟨1, _⟩ => rfl
  have hr : ((cfg0.win 4).blk t).view.emb y = ix2 (rowOf (num t) ⟨(y 0).val, (y 0).isLt⟩) (⟨(y 1).val, (y 1).isLt⟩ : Fin 1024) := by
    funext a; apply Fin.ext
    match a with
    | ⟨0, _⟩ => exact hb0.trans (by rw [e0]; show t.val * 4096 + 1 * (y 0).val = t.val * 4096 + (y 0).val; omega)
    | ⟨1, _⟩ => exact hb1.trans (by rw [e1]; show 0 * 1024 + 1 * (y 1).val = (y 1).val; omega)
  rw [hl, hr]
  exact onehotAt_apply m c t _ _

/-- A point that writes the loss or the perplexity back is the last one. -/
theorem eq_lastPt (t : Fin cfg0.N) (h : t.val % 16 = 15) : t = lastPt := by
  have hN : t.val < 16 := lt_of_lt_of_eq t.isLt N_0
  exact Fin.ext (show t.val = 15 by omega)

/-- A 1×1 block's index is the zero pair. -/
theorem idx11 (i : S1x1.Idx) : i = ix2 (0 : Fin 1) (0 : Fin 1) := by
  rw [eq_ix2 i]
  congr 1
  · exact Subsingleton.elim (α := Fin 1) _ _
  · exact Subsingleton.elim (α := Fin 1) _ _

/-- What the last point writes back to the loss output. -/
theorem flushed5 (c : Dev nD) (t : Fin cfg0.N) (hf : (cfg0.win 5).flush t = true) :
    (dats m 0 c).flushed 5 t = ((cfg0.win 5).blk t).view.read (Elt Ideal) (lossArr m c) := by
  show (cfg0.win 5).cut (grid0.coords t) ((dats m 0 c).after 5 t) = _
  obtain rfl := eq_lastPt t ((flush0_5 t).mp hf)
  rw [after0_5]
  funext y
  show (outsAt0 m c lastPt.val lastPt.isLt).2.2.1 ((cfg0.win 5).xinj (grid0.coords lastPt) y) = lossArr m c (((cfg0.win 5).blk lastPt).view.emb y)
  rw [show (cfg0.win 5).xinj (grid0.coords lastPt) y = ix2 (0 : Fin 1) (0 : Fin 1) from idx11 _]
  exact loss_value m c

/-- A 1×1 block read back through the last window is the array read through it, when their one entry agrees. -/
theorem cut6 (v G : FVec Ideal S1x1 .f32) (h : v (ix2 (0 : Fin 1) (0 : Fin 1)) = G (ix2 (0 : Fin 1) (0 : Fin 1))) :
    (cfg0.win 6).cut (grid0.coords lastPt) v = ((cfg0.win 6).blk lastPt).view.read (Elt Ideal) G := by
  funext y
  show v ((cfg0.win 6).xinj (grid0.coords lastPt) y) = G (((cfg0.win 6).blk lastPt).view.emb y)
  rw [show (cfg0.win 6).xinj (grid0.coords lastPt) y = ix2 (0 : Fin 1) (0 : Fin 1) from idx11 _,
    show ((cfg0.win 6).blk lastPt).view.emb y = ix2 (0 : Fin 1) (0 : Fin 1) from idx11 _]
  exact h

/-- What the last point writes back to the perplexity output. -/
theorem flushed6 (c : Dev nD) (t : Fin cfg0.N) (hf : (cfg0.win 6).flush t = true) :
    (dats m 0 c).flushed 6 t = ((cfg0.win 6).blk t).view.read (Elt Ideal) (perpArr m c) := by
  show (cfg0.win 6).cut (grid0.coords t) ((dats m 0 c).after 6 t) = _
  obtain rfl := eq_lastPt t ((flush0_6 t).mp hf)
  rw [after0_6]
  exact cut6 _ (perpArr m c) (perp_value m c)

/-- The point whose block holds row `n`. -/
def ptOf (n : Fin 65536) : Fin cfg0.N := ⟨n.val / 4096, lt_of_lt_of_eq (by omega) N_0.symm⟩

/-- The flattened quantised output after the grid. -/
theorem final3 (c : Dev nD) : (dats m 0 c).arrAt 3 cfg0.N = quantArr m c :=
  (dats m 0 c).arrAt_eq_of_cover 3 _ (fun t _ => flushed3 m c t) fun i => ⟨ptOf (i 0), flush0_3 _, by
    obtain ⟨⟨e0, e1⟩, -⟩ := outIdx (ptOf (i 0))
    have hi0 : (i 0).val < 65536 := (i 0).isLt
    have hi1 : (i 1).val < 64 := (i 1).isLt
    have hp : (ptOf (i 0)).val = (i 0).val / 4096 := rfl
    show i ∈ ((View.whole main_v3_0).slice (win0_3.rect (ptOf (i 0)))).set
    rw [View.set_slice_whole, Rect.mem_set_unit]
    intro a
    match a with
    | ⟨0, _⟩ => show win0_3.index (ptOf (i 0)) (0 : Fin 2) * 4096 ≤ (i 0).val ∧ (i 0).val < win0_3.index (ptOf (i 0)) (0 : Fin 2) * 4096 + 4096; omega
    | ⟨1, _⟩ => show win0_3.index (ptOf (i 0)) (1 : Fin 2) * 64 ≤ (i 1).val ∧ (i 1).val < win0_3.index (ptOf (i 0)) (1 : Fin 2) * 64 + 64; omega⟩

/-- The one-hot output after the grid. -/
theorem final4 (c : Dev nD) : (dats m 0 c).arrAt 4 cfg0.N = hotArr m c :=
  (dats m 0 c).arrAt_eq_of_cover 4 _ (fun t _ => flushed4 m c t) fun i => ⟨ptOf (i 0), flush0_4 _, by
    obtain ⟨-, ⟨e0, e1⟩, -⟩ := outIdx (ptOf (i 0))
    have hi0 : (i 0).val < 65536 := (i 0).isLt
    have hi1 : (i 1).val < 1024 := (i 1).isLt
    have hp : (ptOf (i 0)).val = (i 0).val / 4096 := rfl
    show i ∈ ((View.whole main_v3_1).slice (win0_4.rect (ptOf (i 0)))).set
    rw [View.set_slice_whole, Rect.mem_set_unit]
    intro a
    match a with
    | ⟨0, _⟩ => show win0_4.index (ptOf (i 0)) (0 : Fin 2) * 4096 ≤ (i 0).val ∧ (i 0).val < win0_4.index (ptOf (i 0)) (0 : Fin 2) * 4096 + 4096; omega
    | ⟨1, _⟩ => show win0_4.index (ptOf (i 0)) (1 : Fin 2) * 1024 ≤ (i 1).val ∧ (i 1).val < win0_4.index (ptOf (i 0)) (1 : Fin 2) * 1024 + 1024; omega⟩

/-- The loss output after the grid. -/
theorem final5 (c : Dev nD) : (dats m 0 c).arrAt 5 cfg0.N = lossArr m c :=
  (dats m 0 c).arrAt_eq_of_cover 5 _ (fun t hf => flushed5 m c t hf) fun i => ⟨lastPt, (flush0_5 _).mpr rfl, by
    obtain ⟨-, -, ⟨e0, e1⟩, -⟩ := outIdx lastPt
    have hi0 : (i 0).val < 1 := (i 0).isLt
    have hi1 : (i 1).val < 1 := (i 1).isLt
    show i ∈ ((View.whole main_v3_2).slice (win0_5.rect lastPt)).set
    rw [View.set_slice_whole, Rect.mem_set_unit]
    intro a
    match a with
    | ⟨0, _⟩ => show win0_5.index lastPt (0 : Fin 2) * 1 ≤ (i 0).val ∧ (i 0).val < win0_5.index lastPt (0 : Fin 2) * 1 + 1; omega
    | ⟨1, _⟩ => show win0_5.index lastPt (1 : Fin 2) * 1 ≤ (i 1).val ∧ (i 1).val < win0_5.index lastPt (1 : Fin 2) * 1 + 1; omega⟩

/-- The perplexity output after the grid. -/
theorem final6 (c : Dev nD) : (dats m 0 c).arrAt 6 cfg0.N = perpArr m c :=
  (dats m 0 c).arrAt_eq_of_cover 6 _ (fun t hf => flushed6 m c t hf) fun i => ⟨lastPt, (flush0_6 _).mpr rfl, by
    obtain ⟨-, -, -, ⟨e0, e1⟩⟩ := outIdx lastPt
    have hi0 : (i 0).val < 1 := (i 0).isLt
    have hi1 : (i 1).val < 1 := (i 1).isLt
    show i ∈ ((View.whole main_v3_3).slice (win0_6.rect lastPt)).set
    rw [View.set_slice_whole, Rect.mem_set_unit]
    intro a
    match a with
    | ⟨0, _⟩ => show win0_6.index lastPt (0 : Fin 2) * 1 ≤ (i 0).val ∧ (i 0).val < win0_6.index lastPt (0 : Fin 2) * 1 + 1; omega
    | ⟨1, _⟩ => show win0_6.index lastPt (1 : Fin 2) * 1 ≤ (i 1).val ∧ (i 1).val < win0_6.index lastPt (1 : Fin 2) * 1 + 1; omega⟩

end Cert.KernelIdeal.Vq

end
-- ==== Proof.KernelRun.lean ====
/-
  The kernel's run over the extended reals: where its four results end, as arrays of its tokens and its codebook.
-/
module

public import proofs.«01_k».proof.Proof.Arrays

@[expose] public section

noncomputable section

namespace Cert.KernelIdeal.Vq

open Cert.KernelIdeal Cert.KernelIdeal.Gen Idealize.ShloMosaic Idealize.ShloMosaic.TcCoe Idealize.SL.Sem Idealize.ShloMosaic.ValueIdx
open Cert.Vq (dist first hotRow rowOf dists total count partialSum)

variable (m : (ℓ : Loc nD τ sig) → Buf (Elt Ideal) ℓ)

/-- The buffers after the grid: the windows' arrays at their final contents. -/
abbrev ended (c : Dev nD) : Valuation τ sig (Elt Ideal) :=
  Pipeline.withArrays (cfgs 0).spec c (V0 m c) fun w => (dats m 0 c).arrAt w (cfgs 0).N

/-- The windows' arrays are pairwise different. -/
theorem arr_inj : Function.Injective (Pipeline.arrRef (cfgs 0).spec) := by decide

/-- After the grid this window's array holds the flattened quantised rows. -/
theorem ended3 (c : Dev nD) : ended m c (Proc.devRef .tc main_v3_0) = quantArr m c :=
  (Pipeline.withArrays_arr (cfgs 0).spec arr_inj c (V0 m c) (fun w => (dats m 0 c).arrAt w (cfgs 0).N) 3).trans (final3 m c)

/-- After the grid this window's array holds the loss. -/
theorem ended5 (c : Dev nD) : ended m c (Proc.devRef .tc main_v3_2) = lossArr m c :=
  (Pipeline.withArrays_arr (cfgs 0).spec arr_inj c (V0 m c) (fun w => (dats m 0 c).arrAt w (cfgs 0).N) 5).trans (final5 m c)

/-- After the grid this window's array holds the perplexity. -/
theorem ended6 (c : Dev nD) : ended m c (Proc.devRef .tc main_v3_3) = perpArr m c :=
  (Pipeline.withArrays_arr (cfgs 0).spec arr_inj c (V0 m c) (fun w => (dats m 0 c).arrAt w (cfgs 0).N) 6).trans (final6 m c)

/-- The output tokens: the quantised rows in the input's layout. -/
def outArr (c : Dev nD) : FVec Ideal S4x64x16x32x32 .f32 :=
  transpose S4x64x16x32x32 [0, 4, 1, 2, 3] (shapeCast S4x16x32x32x64 (quantArr m c) shapeCasts_S65536x64_S4x16x32x32x64)
    transposes_S4x16x32x32x64_S4x64x16x32x32_0_4_1_2_3

/-- The lines after the grid leave the output tokens in their result. -/
theorem tail_out (c : Dev nD) : Pipeline.afterTail₀ cfgs (dats m) 0 (V0 m) [hostOps1] c main_v5 = outArr m c := by
  show StableHlo.after (List.flatten [hostOps1]) (ended m c) (Proc.devRef .tc main_v5) = _
  rw [outArr, ← ended3 m c]
  generalize ended m c = W
  simp only [hostOps1, List.flatten_cons, List.flatten_nil, List.append_nil, List.cons_append, List.nil_append]
  after_results
  rfl

/-- The lines after the grid leave the loss in its result. -/
theorem tail_loss (c : Dev nD) :
    Pipeline.afterTail₀ cfgs (dats m) 0 (V0 m) [hostOps1] c main_v6 = (fun _ => total (tokens m c) (book m c) * lossScale : FVec Ideal S_ .f32) := by
  show StableHlo.after (List.flatten [hostOps1]) (ended m c) (Proc.devRef .tc main_v6) = _
  rw [show (fun _ => total (tokens m c) (book m c) * lossScale : FVec Ideal S_ .f32) = shapeCast S_ (lossArr m c) shapeCasts_S1x1_S_ from rfl, ← ended5 m c]
  generalize ended m c = W
  simp only [hostOps1, List.flatten_cons, List.flatten_nil, List.append_nil, List.cons_append, List.nil_append]
  after_results
  rfl

/-- The lines after the grid leave the perplexity in its result. -/
theorem tail_perp (c : Dev nD) :
    Pipeline.afterTail₀ cfgs (dats m) 0 (V0 m) [hostOps1] c main_v7 = (fun _ => perplexity (count (tokens m c) (book m c)) : FVec Ideal S_ .f32) := by
  show StableHlo.after (List.flatten [hostOps1]) (ended m c) (Proc.devRef .tc main_v7) = _
  rw [show (fun _ => perplexity (count (tokens m c) (book m c)) : FVec Ideal S_ .f32) = shapeCast S_ (perpArr m c) shapeCasts_S1x1_S_ from rfl, ← ended6 m c]
  generalize ended m c = W
  simp only [hostOps1, List.flatten_cons, List.flatten_nil, List.append_nil, List.cons_append, List.nil_append]
  after_results
  rfl

/-- Every weakly fair execution of the kernel ends with its four results at these arrays, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v6) = (fun _ => total (tokens m c) (book m c) * lossScale : FVec Ideal S_ .f32)
      ∧ r.2.mem ((c.tc : Thread nD τ).loc main_v5) = outArr m c
      ∧ r.2.mem ((c.tc : Thread nD τ).loc main_v7) = (fun _ => perplexity (count (tokens m c) (book m c)) : FVec Ideal S_ .f32)
      ∧ r.2.mem ((c.tc : Thread nD τ).loc main_v3_1) = hotArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_loss m c),
     ((h c).2 main_v5 (Pipeline.mem_restRefs_of main_v5 (by decide) (by decide))).trans (tail_out m c),
     ((h c).2 main_v7 (Pipeline.mem_restRefs_of main_v7 (by decide) (by decide))).trans (tail_perp m c),
     ((h c).1 4).trans (final4 m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.KernelIdeal.Vq

end
-- ==== Proof.RefRun.lean ====
/-
  The reference's run, by hand: its operations in order, the terms its four results end at, and the run itself.
  The terms are cut at the values later operations share: the flattened tokens, the distances, the one-hot rows
  and the quantised rows.
-/
module

public import proofs.«01_k».proof.Proof.Gen.ReferenceIdeal
public import Idealize.ShloMosaic.Lib.StableHlo.Run

@[expose] public section

noncomputable section

namespace Cert.ReferenceIdeal.Vq

open Cert.ReferenceIdeal Cert.ReferenceIdeal.Gen Idealize.ShloMosaic Idealize.ShloMosaic.TcCoe Idealize.SL.Sem Idealize.ShloMosaic.StableHlo

variable {F : FTy → Type} [FloatOps F]

/-- The reference's 64 operations in order, each called function's standing in its call's place. -/
abbrev ops : List (HloOp τ sig (Elt F)) :=
  [ unary main_arg0 main_v0 ((transpose S4x16x32x32x64 [0, 2, 3, 4, 1] · transposes_S4x64x16x32x32_S4x16x32x32x64_0_2_3_4_1) : (⟨S4x64x16x32x32, .f32⟩ : BufTy).Contents (Elt F) → (⟨S4x16x32x32x64, .f32⟩ : BufTy).Contents (Elt F)),
    reshape main_v0 main_v1 (rfl : (.f32 : EltTy) = .f32) shapeCasts_S4x16x32x32x64_S65536x64,
    binary main_v1 main_v1 main_v2 (mulf : (⟨S65536x64, .f32⟩ : BufTy).Contents (Elt F) → (⟨S65536x64, .f32⟩ : BufTy).Contents (Elt F) → (⟨S65536x64, .f32⟩ : BufTy).Contents (Elt F)),
    nullary main_cst (constant S_ .f32 0x00000000#32),
    binary main_v2 main_cst main_v3 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v3 main_v4 (broadcastInDim S65536x1 ![0] bcast_S65536_S65536x1_0 : (⟨S65536, .f32⟩ : BufTy).Contents (Elt F) → (⟨S65536x1, .f32⟩ : BufTy).Contents (Elt F)),
    binary main_arg1 main_arg1 main_v5 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v5 main_cst_0 main_v6 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S65536x1024 ![0, 1] bcast_S65536x1_S65536x1024_0_1 : (⟨S65536x1, .f32⟩ : BufTy).Contents (Elt F) → (⟨S65536x1024, .f32⟩ : BufTy).Contents (Elt F)),
    unary main_v7 main_v9 (broadcastInDim S65536x1024 ![0, 1] bcast_S1x1024_S65536x1024_0_1 : (⟨S1x1024, .f32⟩ : BufTy).Contents (Elt F) → (⟨S65536x1024, .f32⟩ : BufTy).Contents (Elt F)),
    binary main_v8 main_v9 main_v10 (addf : (⟨S65536x1024, .f32⟩ : BufTy).Contents (Elt F) → (⟨S65536x1024, .f32⟩ : BufTy).Contents (Elt F) → (⟨S65536x1024, .f32⟩ : BufTy).Contents (Elt F)),
    unary main_arg1 main_v11 ((transpose S64x1024 [1, 0] · transposes_S1024x64_S64x1024_1_0) : (⟨S1024x64, .f32⟩ : BufTy).Contents (Elt F) → (⟨S64x1024, .f32⟩ : BufTy).Contents (Elt F)),
    binary main_v1 main_v11 main_v12 ((fun l r => Host.dotGeneral dot_S65536x64_S64x1024_S65536x1024_1_0_0_1_n_n none l r) : (⟨S65536x64, .f32⟩ : BufTy).Contents (Elt F) → (⟨S64x1024, .f32⟩ : BufTy).Contents (Elt F) → (⟨S65536x1024, .f32⟩ : BufTy).Contents (Elt F)),
    nullary main_cst_1 (constant S_ .f32 0x40000000#32),
    unary main_cst_1 main_v13 (broadcastInDim S65536x1024 ![] bcast_S_S65536x1024 : (⟨S_, .f32⟩ : BufTy).Contents (Elt F) → (⟨S65536x1024, .f32⟩ : BufTy).Contents (Elt F)),
    binary main_v13 main_v12 main_v14 (mulf : (⟨S65536x1024, .f32⟩ : BufTy).Contents (Elt F) → (⟨S65536x1024, .f32⟩ : BufTy).Contents (Elt F) → (⟨S65536x1024, .f32⟩ : BufTy).Contents (Elt F)),
    binary main_v10 main_v14 main_v15 (subf : (⟨S65536x1024, .f32⟩ : BufTy).Contents (Elt F) → (⟨S65536x1024, .f32⟩ : BufTy).Contents (Elt F) → (⟨S65536x1024, .f32⟩ : BufTy).Contents (Elt F)),
    TRef.nullary (TRef.of (T := ⟨S65536x1024, .i32⟩) main_call0_v0) (iotaInDim S65536x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S65536x1024, .f32⟩) main_v15) (TRef.of (T := ⟨S65536x1024, .i32⟩) main_call0_v0) (TRef.of (T := ⟨S_, .f32⟩) main_call0_cst) (TRef.of (T := ⟨S_, .i32⟩) main_call0_c) (TRef.of (T := ⟨S65536, .f32⟩) main_call0_v1_0) (fun x y u v j => (Host.argReduce reducer_argmin_f32_i32 x y u v reducesTo_S65536x1024_S65536_d1 h_S_ j).1),
    TRef.quaternary (TRef.of (T := ⟨S65536x1024, .f32⟩) main_v15) (TRef.of (T := ⟨S65536x1024, .i32⟩) main_call0_v0) (TRef.of (T := ⟨S_, .f32⟩) main_call0_cst) (TRef.of (T := ⟨S_, .i32⟩) main_call0_c) (TRef.of (T := ⟨S65536, .i32⟩) main_v16) (fun x y u v j => (Host.argReduce reducer_argmin_f32_i32 x y u v reducesTo_S65536x1024_S65536_d1 h_S_ j).2),
    TRef.unary (TRef.of (T := ⟨S65536, .i32⟩) main_v16) (TRef.of (T := ⟨S65536x1, .i32⟩) main_call1_v0) (broadcastInDim S65536x1 ![0] bcast_S65536_S65536x1_0),
    TRef.nullary (TRef.of (T := ⟨S1x1024, .i32⟩) main_call1_v1) (iotaInDim S1x1024 32 1),
    TRef.unary (TRef.of (T := ⟨S65536x1, .i32⟩) main_call1_v0) (TRef.of (T := ⟨S65536x1024, .i32⟩) main_call1_v2) (broadcastInDim S65536x1024 ![0, 1] bcast_S65536x1_S65536x1024_0_1),
    TRef.unary (TRef.of (T := ⟨S1x1024, .i32⟩) main_call1_v1) (TRef.of (T := ⟨S65536x1024, .i32⟩) main_call1_v3) (broadcastInDim S65536x1024 ![0, 1] bcast_S1x1024_S65536x1024_0_1),
    TRef.binary (TRef.of (T := ⟨S65536x1024, .i32⟩) main_call1_v2) (TRef.of (T := ⟨S65536x1024, .i32⟩) main_call1_v3) (TRef.of (T := ⟨S65536x1024, .i1⟩) main_call1_v4) (cmpi .eq),
    TRef.unary (TRef.of (T := ⟨S65536x1024, .i1⟩) main_call1_v4) (TRef.of (T := ⟨S65536x1024, .f32⟩) main_v17) (uitofp .f32),
    binary main_v17 main_arg1 main_v18 ((fun l r => Host.dotGeneral dot_S65536x1024_S1024x64_S65536x64_1_0_0_1_n_n none l r) : (⟨S65536x1024, .f32⟩ : BufTy).Contents (Elt F) → (⟨S1024x64, .f32⟩ : BufTy).Contents (Elt F) → (⟨S65536x64, .f32⟩ : BufTy).Contents (Elt F)),
    reshape main_v18 main_v19 (rfl : (.f32 : EltTy) = .f32) shapeCasts_S65536x64_S4x16x32x32x64,
    binary main_v19 main_v0 main_v20 (subf : (⟨S4x16x32x32x64, .f32⟩ : BufTy).Contents (Elt F) → (⟨S4x16x32x32x64, .f32⟩ : BufTy).Contents (Elt F) → (⟨S4x16x32x32x64, .f32⟩ : BufTy).Contents (Elt F)),
    binary main_v20 main_v20 main_v21 (mulf : (⟨S4x16x32x32x64, .f32⟩ : BufTy).Contents (Elt F) → (⟨S4x16x32x32x64, .f32⟩ : BufTy).Contents (Elt F) → (⟨S4x16x32x32x64, .f32⟩ : BufTy).Contents (Elt F)),
    nullary main_cst_2 (constant S_ .f32 0x00000000#32),
    binary main_v21 main_cst_2 main_v22 ((fun x v => Host.reduceAdd x v reducesTo_S4x16x32x32x64_S_d0_1_2_3_4 h_S_) : (⟨S4x16x32x32x64, .f32⟩ : BufTy).Contents (Elt F) → (⟨S_, .f32⟩ : BufTy).Contents (Elt F) → (⟨S_, .f32⟩ : BufTy).Contents (Elt F)),
    nullary main_cst_3 (constant S_ .f32 0x4A800000#32),
    binary main_v22 main_cst_3 main_v23 (Host.divf : (⟨S_, .f32⟩ : BufTy).Contents (Elt F) → (⟨S_, .f32⟩ : BufTy).Contents (Elt F) → (⟨S_, .f32⟩ : BufTy).Contents (Elt F)),
    binary main_v19 main_v0 main_v24 (subf : (⟨S4x16x32x32x64, .f32⟩ : BufTy).Contents (Elt F) → (⟨S4x16x32x32x64, .f32⟩ : BufTy).Contents (Elt F) → (⟨S4x16x32x32x64, .f32⟩ : BufTy).Contents (Elt F)),
    binary main_v24 main_v24 main_v25 (mulf : (⟨S4x16x32x32x64, .f32⟩ : BufTy).Contents (Elt F) → (⟨S4x16x32x32x64, .f32⟩ : BufTy).Contents (Elt F) → (⟨S4x16x32x32x64, .f32⟩ : BufTy).Contents (Elt F)),
    nullary main_cst_4 (constant S_ .f32 0x00000000#32),
    binary main_v25 main_cst_4 main_v26 ((fun x v => Host.reduceAdd x v reducesTo_S4x16x32x32x64_S_d0_1_2_3_4 h_S_) : (⟨S4x16x32x32x64, .f32⟩ : BufTy).Contents (Elt F) → (⟨S_, .f32⟩ : BufTy).Contents (Elt F) → (⟨S_, .f32⟩ : BufTy).Contents (Elt F)),
    nullary main_cst_5 (constant S_ .f32 0x4A800000#32),
    binary main_v26 main_cst_5 main_v27 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v23 main_v28 (mulf : (⟨S_, .f32⟩ : BufTy).Contents (Elt F) → (⟨S_, .f32⟩ : BufTy).Contents (Elt F) → (⟨S_, .f32⟩ : BufTy).Contents (Elt F)),
    binary main_v27 main_v28 main_v29 (addf : (⟨S_, .f32⟩ : BufTy).Contents (Elt F) → (⟨S_, .f32⟩ : BufTy).Contents (Elt F) → (⟨S_, .f32⟩ : BufTy).Contents (Elt F)),
    binary main_v19 main_v0 main_v30 (subf : (⟨S4x16x32x32x64, .f32⟩ : BufTy).Contents (Elt F) → (⟨S4x16x32x32x64, .f32⟩ : BufTy).Contents (Elt F) → (⟨S4x16x32x32x64, .f32⟩ : BufTy).Contents (Elt F)),
    binary main_v0 main_v30 main_v31 (addf : (⟨S4x16x32x32x64, .f32⟩ : BufTy).Contents (Elt F) → (⟨S4x16x32x32x64, .f32⟩ : BufTy).Contents (Elt F) → (⟨S4x16x32x32x64, .f32⟩ : BufTy).Contents (Elt F)),
    nullary main_cst_7 (constant S_ .f32 0x00000000#32),
    binary main_v17 main_cst_7 main_v32 ((fun x v => Host.reduceAdd x v reducesTo_S65536x1024_S1024_d0 h_S_) : (⟨S65536x1024, .f32⟩ : BufTy).Contents (Elt F) → (⟨S_, .f32⟩ : BufTy).Contents (Elt F) → (⟨S1024, .f32⟩ : BufTy).Contents (Elt F)),
    nullary main_cst_8 (constant S_ .f32 0x47800000#32),
    unary main_cst_8 main_v33 (broadcastInDim S1024 ![] bcast_S_S1024 : (⟨S_, .f32⟩ : BufTy).Contents (Elt F) → (⟨S1024, .f32⟩ : BufTy).Contents (Elt F)),
    binary main_v32 main_v33 main_v34 (Host.divf : (⟨S1024, .f32⟩ : BufTy).Contents (Elt F) → (⟨S1024, .f32⟩ : BufTy).Contents (Elt F) → (⟨S1024, .f32⟩ : BufTy).Contents (Elt F)),
    nullary main_cst_9 (constant S_ .f32 0x2EDBE6FF#32),
    unary main_cst_9 main_v35 (broadcastInDim S1024 ![] bcast_S_S1024 : (⟨S_, .f32⟩ : BufTy).Contents (Elt F) → (⟨S1024, .f32⟩ : BufTy).Contents (Elt F)),
    binary main_v34 main_v35 main_v36 (addf : (⟨S1024, .f32⟩ : BufTy).Contents (Elt F) → (⟨S1024, .f32⟩ : BufTy).Contents (Elt F) → (⟨S1024, .f32⟩ : BufTy).Contents (Elt F)),
    unary main_v36 main_v37 (Host.log : (⟨S1024, .f32⟩ : BufTy).Contents (Elt F) → (⟨S1024, .f32⟩ : BufTy).Contents (Elt F)),
    binary main_v34 main_v37 main_v38 (mulf : (⟨S1024, .f32⟩ : BufTy).Contents (Elt F) → (⟨S1024, .f32⟩ : BufTy).Contents (Elt F) → (⟨S1024, .f32⟩ : BufTy).Contents (Elt F)),
    nullary main_cst_10 (constant S_ .f32 0x00000000#32),
    binary main_v38 main_cst_10 main_v39 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v39 main_v40 (Host.negf : (⟨S_, .f32⟩ : BufTy).Contents (Elt F) → (⟨S_, .f32⟩ : BufTy).Contents (Elt F)),
    unary main_v40 main_v41 (Host.exp : (⟨S_, .f32⟩ : BufTy).Contents (Elt F) → (⟨S_, .f32⟩ : BufTy).Contents (Elt F)),
    unary main_v31 main_v42 ((transpose S4x64x16x32x32 [0, 4, 1, 2, 3] · transposes_S4x16x32x32x64_S4x64x16x32x32_0_4_1_2_3) : (⟨S4x16x32x32x64, .f32⟩ : BufTy).Contents (Elt F) → (⟨S4x64x16x32x32, .f32⟩ : BufTy).Contents (Elt F)) ]

set_option maxRecDepth 8192 in
set_option maxHeartbeats 4000000 in
/-- The printed program is that list run in sequence. -/
theorem main_is_ops (c : Dev nD) : main (F := F) c = seq ops := rfl

/-- The reference keeps no scoped buffer. -/
theorem no_scoped_refs : (Finset.univ.filter fun b : Ref sig .tc => b.isScoped) = ∅ := by decide

/-- The reference keeps no scoped semaphore. -/
theorem no_scoped_sems : (Finset.univ.filter fun sm : SemLoc sig => sm.isScoped .tc) = ∅ := by decide

set_option maxRecDepth 8192 in
/-- Every operation names buffers of the core only. -/
theorem ops_bufs : (ops : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., unary_bufs_sub ..⟩

/-- The tokens with the channel axis last. -/
def lastChannel (x : FVec F S4x64x16x32x32 .f32) : FVec F S4x16x32x32x64 .f32 :=
  transpose S4x16x32x32x64 [0, 2, 3, 4, 1] x transposes_S4x64x16x32x32_S4x16x32x32x64_0_2_3_4_1

/-- The tokens as rows. -/
def rows (x : FVec F S4x64x16x32x32 .f32) : FVec F S65536x64 .f32 :=
  shapeCast _ (lastChannel x) shapeCasts_S4x16x32x32x64_S65536x64

/-- The distances of every row to every code. -/
def dists (X : FVec F S65536x64 .f32) (e : FVec F S1024x64 .f32) : FVec F S65536x1024 .f32 :=
  subf (addf (broadcastInDim S65536x1024 ![0, 1] bcast_S65536x1_S65536x1024_0_1
        (broadcastInDim S65536x1 ![0] bcast_S65536_S65536x1_0
          (Host.reduceAdd (mulf X X) (constant S_ .f32 0x00000000#32) reducesTo_S65536x64_S65536_d1 h_S_)))
      (broadcastInDim S65536x1024 ![0, 1] bcast_S1x1024_S65536x1024_0_1
        (broadcastInDim S1x1024 ![1] bcast_S1024_S1x1024_1
          (Host.reduceAdd (mulf e e) (constant S_ .f32 0x00000000#32) reducesTo_S1024x64_S1024_d1 h_S_))))
    (mulf (broadcastInDim S65536x1024 ![] bcast_S_S65536x1024 (constant S_ .f32 0x40000000#32))
      (Host.dotGeneral dot_S65536x64_S64x1024_S65536x1024_1_0_0_1_n_n none X
        (transpose S64x1024 [1, 0] e transposes_S1024x64_S64x1024_1_0)))

/-- The code each row of distances chooses. -/
def codes (D : FVec F S65536x1024 .f32) : IVec S65536 32 := fun j =>
  (Host.argReduce reducer_argmin_f32_i32 D (iotaInDim S65536x1024 32 1) (constant S_ .f32 0x7F800000#32)
    (constantI S_ 32 0#32) reducesTo_S65536x1024_S65536_d1 h_S_ j).2

/-- The one-hot rows of the codes. -/
def onehot (k : IVec S65536 32) : FVec F S65536x1024 .f32 :=
  uitofp .f32 (cmpi .eq (broadcastInDim S65536x1024 ![0, 1] bcast_S65536x1_S65536x1024_0_1
      (broadcastInDim S65536x1 ![0] bcast_S65536_S65536x1_0 k))
    (broadcastInDim S65536x1024 ![0, 1] bcast_S1x1024_S65536x1024_0_1 (iotaInDim S1x1024 32 1)))

/-- The quantised rows, in the tokens' layout with the channel axis last. -/
def quant (H : FVec F S65536x1024 .f32) (e : FVec F S1024x64 .f32) : FVec F S4x16x32x32x64 .f32 :=
  shapeCast _ (Host.dotGeneral dot_S65536x1024_S1024x64_S65536x64_1_0_0_1_n_n none H e) shapeCasts_S65536x64_S4x16x32x32x64

/-- The mean squared difference of two arrays of tokens. -/
def meanSq (q x : FVec F S4x16x32x32x64 .f32) : FVec F S_ .f32 :=
  Host.divf (Host.reduceAdd (mulf (subf q x) (subf q x)) (constant S_ .f32 0x00000000#32)
    reducesTo_S4x16x32x32x64_S_d0_1_2_3_4 h_S_) (constant S_ .f32 0x4A800000#32)

/-- The loss. -/
def loss (q x : FVec F S4x16x32x32x64 .f32) : FVec F S_ .f32 :=
  addf (meanSq q x) (mulf (constant S_ .f32 0x3E800000#32) (meanSq q x))

/-- The share of the rows each code is chosen by. -/
def shares (H : FVec F S65536x1024 .f32) : FVec F S1024 .f32 :=
  Host.divf (Host.reduceAdd H (constant S_ .f32 0x00000000#32) reducesTo_S65536x1024_S1024_d0 h_S_)
    (broadcastInDim S1024 ![] bcast_S_S1024 (constant S_ .f32 0x47800000#32))

/-- The perplexity. -/
def perp (p : FVec F S1024 .f32) : FVec F S_ .f32 :=
  Host.exp (Host.negf (Host.reduceAdd (mulf p (Host.log (addf p (broadcastInDim S1024 ![] bcast_S_S1024
    (constant S_ .f32 0x2EDBE6FF#32))))) (constant S_ .f32 0x00000000#32) reducesTo_S1024_S_d0 h_S_))

/-- The output tokens, the channel axis back in its place. -/
def out (q x : FVec F S4x16x32x32x64 .f32) : FVec F S4x64x16x32x32 .f32 :=
  transpose S4x64x16x32x32 [0, 4, 1, 2, 3] (addf x (subf q x)) transposes_S4x16x32x32x64_S4x64x16x32x32_0_4_1_2_3

/-- The one-hot rows of the arguments. -/
def hot (x : FVec F S4x64x16x32x32 .f32) (e : FVec F S1024x64 .f32) : FVec F S65536x1024 .f32 :=
  onehot (codes (dists (rows x) e))

set_option maxRecDepth 8192 in
set_option maxHeartbeats 25600000 in
/-- Every weakly fair execution of the reference ends with its four results at these terms of the arguments, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = loss (quant (hot (m ((c.tc : Thread nD τ).loc main_arg0)) (m ((c.tc : Thread nD τ).loc main_arg1))) (m ((c.tc : Thread nD τ).loc main_arg1))) (lastChannel (m ((c.tc : Thread nD τ).loc main_arg0)))
      ∧ r.2.mem ((c.tc : Thread nD τ).loc main_v42) = out (quant (hot (m ((c.tc : Thread nD τ).loc main_arg0)) (m ((c.tc : Thread nD τ).loc main_arg1))) (m ((c.tc : Thread nD τ).loc main_arg1))) (lastChannel (m ((c.tc : Thread nD τ).loc main_arg0)))
      ∧ r.2.mem ((c.tc : Thread nD τ).loc main_v41) = perp (shares (hot (m ((c.tc : Thread nD τ).loc main_arg0)) (m ((c.tc : Thread nD τ).loc main_arg1))))
      ∧ r.2.mem ((c.tc : Thread nD τ).loc main_v17) = hot (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v29).trans (by simp only [ops, TRef.binary, TRef.nullary, TRef.unary, TRef.quaternary, TRef.toBuf, TRef.ofBuf, cast_eq]; after_results_simp <;> rfl),
      (h c main_v42).trans (by simp only [ops, TRef.binary, TRef.nullary, TRef.unary, TRef.quaternary, TRef.toBuf, TRef.ofBuf, cast_eq]; after_results_simp <;> rfl),
      (h c main_v41).trans (by simp only [ops, TRef.binary, TRef.nullary, TRef.unary, TRef.quaternary, TRef.toBuf, TRef.ofBuf, cast_eq]; after_results_simp <;> rfl),
      (h c main_v17).trans (by simp only [ops, TRef.binary, TRef.nullary, TRef.unary, TRef.quaternary, TRef.toBuf, TRef.ofBuf, cast_eq]; after_results_simp <;> rfl),
      (h c main_arg0).trans (by simp only [ops, TRef.binary, TRef.nullary, TRef.unary, TRef.quaternary, TRef.toBuf, TRef.ofBuf, cast_eq]; after_results_simp <;> rfl),
      (h c main_arg1).trans (by simp only [ops, TRef.binary, TRef.nullary, TRef.unary, TRef.quaternary, TRef.toBuf, TRef.ofBuf, cast_eq]; after_results_simp <;> rfl)⟩)
    (run_seq no_scoped_refs no_scoped_sems defs main (fun _ => ops) main_is_ops (fun _ => ops_bufs) m ρ)

end Cert.ReferenceIdeal.Vq

end
-- ==== Proof.RefCodes.lean ====
/-
  The reference's distances and codes at an index: each distance is the expanded one, each code the first index at
  which its row of distances is least.
-/
module

public import proofs.«01_k».proof.Proof.RefRun
public import proofs.«01_k».proof.Proof.Spec
public import Idealize.ShloMosaic.Lib.StackMember
public import Idealize.ShloMosaic.Lib.ValueIdx
public import Idealize.ShloMosaic.Lib.ValueLayout
public import Idealize.ShloMosaic.Lib.IdealHost
public import Idealize.ShloMosaic.Lib.Pipeline.Value

@[expose] public section

noncomputable section

namespace Cert.ReferenceIdeal.Vq

open Cert.ReferenceIdeal Cert.ReferenceIdeal.Gen Idealize.ShloMosaic Idealize.ShloMosaic.ValueIdx
open Cert.Vq (dist first hotRow IsFirst)
open scoped BigOperators

/-- A value with its index. -/
abbrev Pr := Ideal .f32 × BitVec 32

/-- `a` comes no later than `b`: a smaller value, or the same value at a smaller or equal index. -/
def Le (a b : Pr) : Prop := (a.1 : EReal) < b.1 ∨ ((a.1 : EReal) = b.1 ∧ a.2.toInt ≤ b.2.toInt)

/-- A pair comes no later than itself. -/
theorem Le.refl (a : Pr) : Le a a := .inr ⟨rfl, le_refl _⟩

/-- Coming no later is transitive. -/
theorem Le.trans {a b c : Pr} (h : Le a b) (h' : Le b c) : Le a c := by
  rcases h with h | ⟨h, i⟩ <;> rcases h' with h' | ⟨h', i'⟩
  · exact .inl (lt_trans h h')
  · exact .inl (lt_of_lt_of_eq h h')
  · exact .inl (lt_of_eq_of_lt h h')
  · exact .inr ⟨h.trans h', i.trans i'⟩

/-- One step of the reference's reduction keeps the earlier of the two. -/
theorem step_spec (a b : Pr) :
    (reducer_argmin_f32_i32 (F := Ideal) a b = a ∧ Le a b) ∨ (reducer_argmin_f32_i32 (F := Ideal) a b = b ∧ Le b a) := by
  obtain ⟨x, i⟩ := a
  obtain ⟨y, j⟩ := b
  rcases lt_trichotomy (x : EReal) y with h | h | h
  · refine .inl ⟨?_, .inl h⟩
    simp [reducer_argmin_f32_i32, Ideal.cmpf_def, Ideal.cmp, Scalar.select, IntOp.ori, IntOp.andi, h, h.ne]
  · obtain rfl : x = y := h
    by_cases hij : i.toInt < j.toInt
    · refine .inl ⟨?_, .inr ⟨rfl, hij.le⟩⟩
      simp [reducer_argmin_f32_i32, Ideal.cmpf_def, Ideal.cmp, Scalar.select, IntOp.ori, IntOp.andi, IntOp.cmpi, BitVec.slt, hij]
    · refine .inr ⟨?_, .inr ⟨rfl, not_lt.mp hij⟩⟩
      simp [reducer_argmin_f32_i32, Ideal.cmpf_def, Ideal.cmp, Scalar.select, IntOp.ori, IntOp.andi, IntOp.cmpi, BitVec.slt, hij]
  · refine .inr ⟨?_, .inl h⟩
    have h1 : ¬ ((x : EReal) < y) := not_lt.mpr h.le
    have h2 : ¬ ((x : EReal) = y) := ne_of_gt h
    simp [reducer_argmin_f32_i32, Ideal.cmpf_def, Ideal.cmp, Scalar.select, IntOp.ori, IntOp.andi, h1, h2]

/-- The reduction of a list ends at the start or at an element, and no later than any of them. -/
theorem fold_spec (L : List Pr) (a : Pr) :
    (L.foldl (reducer_argmin_f32_i32 (F := Ideal)) a = a ∨ L.foldl (reducer_argmin_f32_i32 (F := Ideal)) a ∈ L)
      ∧ Le (L.foldl (reducer_argmin_f32_i32 (F := Ideal)) a) a
      ∧ ∀ b ∈ L, Le (L.foldl (reducer_argmin_f32_i32 (F := Ideal)) a) b := by
  induction L generalizing a with
  | nil => exact ⟨.inl rfl, Le.refl a, fun b hb => absurd hb List.not_mem_nil⟩
  | cons b L ih =>
    rw [List.foldl_cons]
    obtain ⟨hm, ha, hL⟩ := ih (reducer_argmin_f32_i32 (F := Ideal) a b)
    rcases step_spec a b with ⟨hs, hle⟩ | ⟨hs, hle⟩
    · rw [hs] at hm ha hL ⊢
      exact ⟨hm.imp id (List.mem_cons_of_mem _), ha, fun c hc => (List.mem_cons.mp hc).elim (fun h => h ▸ ha.trans hle) (hL c)⟩
    · rw [hs] at hm ha hL ⊢
      refine ⟨.inr ?_, ha.trans hle, fun c hc => (List.mem_cons.mp hc).elim (fun h => h ▸ ha) (hL c)⟩
      exact hm.elim (fun h => by rw [h]; exact List.mem_cons_self) (List.mem_cons_of_mem _)

/-- A small number's word, read signed, is the number. -/
theorem toInt_small (k : Fin 1024) : (BitVec.ofNat 32 k.val).toInt = (k.val : ℤ) := by
  have hk := k.isLt
  rw [BitVec.toInt_eq_toNat_of_lt (by rw [BitVec.toNat_ofNat, Nat.mod_eq_of_lt (by omega)]; omega), BitVec.toNat_ofNat, Nat.mod_eq_of_lt (by omega)]

/-- Dropping the second coordinate of a pair leaves the first. -/
theorem drop_eq (i : S65536x1024.Idx) : reducesTo_S65536x1024_S65536_d1.drop i = ix1 (i 0) := by
  funext b
  match b with
  | ⟨0, _⟩ => rfl

/-- A row's pairs are its distances with their column numbers. -/
theorem mem_fiber (D : FVec Ideal S65536x1024 .f32) (n : Fin 65536) (p : Pr) :
    p ∈ Host.argReduceFiber D (iotaInDim S65536x1024 32 1) reducesTo_S65536x1024_S65536_d1 (ix1 n)
      ↔ ∃ k : Fin 1024, p = (D (ix2 n k), BitVec.ofNat 32 k.val) := by
  unfold Host.argReduceFiber
  rw [List.mem_map]
  constructor
  · rintro ⟨q, hq, rfl⟩
    have hd := of_decide_eq_true (List.mem_filter.mp hq).2
    generalize S65536x1024.rowMajor.symm q = i at hd
    rw [drop_eq] at hd
    have h0 : i 0 = n := congrFun hd 0
    refine ⟨i 1, ?_⟩
    have : i = ix2 n (i 1) := by rw [← h0]; exact eq_ix2 i
    exact Prod.ext (congrArg D this) rfl
  · rintro ⟨k, rfl⟩
    refine ⟨S65536x1024.rowMajor (ix2 n k), List.mem_filter.mpr ⟨List.mem_finRange _, decide_eq_true ?_⟩, ?_⟩
    · rw [Equiv.symm_apply_apply, drop_eq]; rfl
    · rw [Equiv.symm_apply_apply]; rfl

/-- The word of positive infinity. -/
theorem top_word : Ideal.ofBits .f32 0x7F800000#32 = ⊤ := by simp [Ideal.ofBits, Ideal.ieee]

/-- The reduction of a list of values with their indices, begun at positive infinity with index zero, ends at the
    first index of the least value. -/
theorem fold_first (d : Fin 1024 → EReal) (L : List Pr) (hL' : ∀ p : Pr, p ∈ L ↔ ∃ k : Fin 1024, p = (d k, BitVec.ofNat 32 k.val))
    (a : Pr) (ha1 : (a.1 : EReal) = ⊤) (ha2 : a.2 = 0#32) :
    (L.foldl (reducer_argmin_f32_i32 (F := Ideal)) a).2 = BitVec.ofNat 32 (first d).val := by
  obtain ⟨hm, -, hL⟩ := fold_spec L a
  revert hm hL
  generalize L.foldl (reducer_argmin_f32_i32 (F := Ideal)) a = p
  intro hm hL
  have hall : ∀ k : Fin 1024, Le p (d k, BitVec.ofNat 32 k.val) := fun k => hL _ ((hL' _).mpr ⟨k, rfl⟩)
  have hval : ∀ k, (p.1 : EReal) ≤ d k := fun k => (hall k).elim le_of_lt fun h => le_of_eq h.1
  obtain ⟨k, hk1, hk2⟩ : ∃ k : Fin 1024, (p.1 : EReal) = d k ∧ p.2 = BitVec.ofNat 32 k.val := by
    rcases hm with hm | hm
    · refine ⟨0, le_antisymm (hval 0) ?_, ?_⟩
      · rw [hm]; exact le_of_le_of_eq le_top ha1.symm
      · rw [hm, ha2]; rfl
    · obtain ⟨k, hk⟩ := (hL' p).mp hm
      exact ⟨k, by rw [hk], by rw [hk]⟩
  have hf : IsFirst d k := by
    refine ⟨fun j => hk1 ▸ hval j, fun j hj => ?_⟩
    rcases hall j with h | ⟨h, hi⟩
    · exact lt_of_eq_of_lt hk1.symm h
    · rw [hk2] at hi
      have hi : (BitVec.ofNat 32 k.val).toInt ≤ (BitVec.ofNat 32 j.val).toInt := hi
      rw [toInt_small, toInt_small] at hi
      exact absurd hj (not_lt.mpr (Fin.le_def.mpr (by exact_mod_cast hi)))
  rw [hk2, hf.unique (Cert.Vq.first_spec d)]

/-- The indices of an arg-reduction are the indices its result positions' lists reduce to. -/
theorem argReduce_snd {s t u : Shape} {axes : List (Fin s.rank)} (f : Pr → Pr → Pr) (x : FVec Ideal s .f32) (y : s.Idx → BitVec 32)
    (ix : u.Idx → Ideal .f32) (iy : u.Idx → BitVec 32) (h : s.ReducesTo axes t) (hu : 0 < u.numel) :
    (fun j => (Host.argReduce f x y ix iy h hu j).2)
      = fun j => ((Host.argReduceFiber x y h j).foldl f (ix (Shape.Idx.first hu), iy (Shape.Idx.first hu))).2 := by
  funext j
  rw [Ideal.argReduce_eq_reduce2, Host.reduce2_eq_foldl_fiber]

/-- The codes as reductions of the rows' lists. -/
theorem codes_eq (D : FVec Ideal S65536x1024 .f32) :
    codes D = fun j => ((Host.argReduceFiber D (iotaInDim S65536x1024 32 1) reducesTo_S65536x1024_S65536_d1 j).foldl
      reducer_argmin_f32_i32 ((constant S_ .f32 0x7F800000#32 : FVec Ideal S_ .f32) (Shape.Idx.first h_S_), (constantI S_ 32 0#32) (Shape.Idx.first h_S_))).2 :=
  (rfl : codes D = _).trans (argReduce_snd reducer_argmin_f32_i32 D (iotaInDim S65536x1024 32 1) (constant S_ .f32 0x7F800000#32)
    (constantI S_ 32 0#32) reducesTo_S65536x1024_S65536_d1 h_S_)

/-- An array of such reductions holds the first least index of each list. -/
theorem folds_apply (c : IVec S65536 32) (L : S65536.Idx → List Pr) (a : Pr)
    (hc : c = fun j => ((L j).foldl (reducer_argmin_f32_i32 (F := Ideal)) a).2) (ha1 : (a.1 : EReal) = ⊤) (ha2 : a.2 = 0#32)
    (n : Fin 65536) (d : Fin 1024 → EReal) (hL : ∀ p : Pr, p ∈ L (ix1 n) ↔ ∃ k : Fin 1024, p = (d k, BitVec.ofNat 32 k.val)) :
    c (ix1 n) = BitVec.ofNat 32 (first d).val := by
  subst hc
  exact fold_first d (L (ix1 n)) hL a ha1 ha2

/-- The code of a row is the first index at which its distances are least. -/
theorem codes_apply (D : FVec Ideal S65536x1024 .f32) (n : Fin 65536) :
    codes D (ix1 n) = BitVec.ofNat 32 (first fun k => (D (ix2 n k) : EReal)).val :=
  folds_apply (codes D) _ _ (codes_eq D) top_word rfl n _ (mem_fiber D n)

end Cert.ReferenceIdeal.Vq

end
-- ==== Proof.RefValue.lean ====
/-
  The reference's four results over the extended reals, in the terms of the mathematics: the distances, the one-hot
  rows, the quantised rows, the loss of real arguments and the perplexity.
-/
module

public import proofs.«01_k».proof.Proof.RefCodes

@[expose] public section

noncomputable section

namespace Cert.ReferenceIdeal.Vq

open Cert.ReferenceIdeal Cert.ReferenceIdeal.Gen Idealize.ShloMosaic Idealize.ShloMosaic.ValueIdx
open Cert.Vq (dist first hotRow total count)
open scoped BigOperators

/-- The rows of a matrix of tokens. -/
def rowsOf (X : FVec Ideal S65536x64 .f32) : Fin 65536 → Fin 64 → EReal := fun n c => X (ix2 n c)

/-- The codes of a codebook. -/
def codesOf (e : FVec Ideal S1024x64 .f32) : Fin 1024 → Fin 64 → EReal := fun k c => e (ix2 k c)

/-- The word of two. -/
theorem two_word : Ideal.ofBits .f32 0x40000000#32 = (2 : EReal) := by
  have : Ideal.ofBits .f32 0x40000000#32 = ((2 : ℝ) : EReal) := by
    simp [Ideal.ofBits, Ideal.ieee, -EReal.coe_mul]; norm_num
  rw [this]; rfl

/-- A row's sum of squares. -/
theorem rowSq_apply (X : FVec Ideal S65536x64 .f32) (n : Fin 65536) :
    Host.reduceAdd (mulf X X) (constant S_ .f32 0x00000000#32) reducesTo_S65536x64_S65536_d1 h_S_ (ix1 n)
      = ∑ c, rowsOf X n c * rowsOf X n c := by
  refine (hostReduceAdd_apply _ _ _ _ _).trans ?_
  refine (Ideal.hostReduceAdd_single reducesTo_S65536x64_S65536_d1 (by decide) _ _ _).trans ?_
  rw [show (constant S_ .f32 0x00000000#32 : FVec Ideal S_ .f32) (Shape.Idx.first h_S_) = 0 from Ideal.ofBits_zero_f32, zero_add]
  refine Finset.sum_congr rfl fun c _ => ?_
  have : (by decide : S65536x64.Reduces [1] S65536).lift (ix1 n) c = ix2 n c :=
    funext fun a => match a with | ⟨0, _⟩ => rfl | ⟨1, _⟩ => rfl
  rw [this]; rfl

/-- A code's sum of squares. -/
theorem codeSq_apply (e : FVec Ideal S1024x64 .f32) (k : Fin 1024) :
    Host.reduceAdd (mulf e e) (constant S_ .f32 0x00000000#32) reducesTo_S1024x64_S1024_d1 h_S_ (ix1 k)
      = ∑ c, codesOf e k c * codesOf e k c := by
  refine (hostReduceAdd_apply _ _ _ _ _).trans ?_
  refine (Ideal.hostReduceAdd_single reducesTo_S1024x64_S1024_d1 (by decide) _ _ _).trans ?_
  rw [show (constant S_ .f32 0x00000000#32 : FVec Ideal S_ .f32) (Shape.Idx.first h_S_) = 0 from Ideal.ofBits_zero_f32, zero_add]
  refine Finset.sum_congr rfl fun c _ => ?_
  have : (by decide : S1024x64.Reduces [1] S1024).lift (ix1 k) c = ix2 k c :=
    funext fun a => match a with | ⟨0, _⟩ => rfl | ⟨1, _⟩ => rfl
  rw [this]; rfl

/-- A column of values, one per row, copied along the rows. -/
theorem column_apply {α : Type} (v : S65536.Idx → α) (n : Fin 65536) (k : Fin 1024) :
    broadcastInDim S65536x1024 ![0, 1] bcast_S65536x1_S65536x1024_0_1 (broadcastInDim S65536x1 ![0] bcast_S65536_S65536x1_0 v) (ix2 n k)
      = v (ix1 n) := by
  refine (broadcastInDim_apply _ _ _ (ix2 n k) (ix2 n (0 : Fin 1)) fun a => ?_).trans ?_
  · match a with
    | ⟨0, _⟩ => rfl
    | ⟨1, _⟩ => rfl
  · refine broadcastInDim_apply _ _ _ (ix2 n (0 : Fin 1)) (ix1 n) fun a => ?_
    match a with
    | ⟨0, _⟩ => rfl

/-- A row of values, one per column, copied down the columns. -/
theorem row_apply {α : Type} (v : S1x1024.Idx → α) (n : Fin 65536) (k : Fin 1024) :
    broadcastInDim S65536x1024 ![0, 1] bcast_S1x1024_S65536x1024_0_1 v (ix2 n k) = v (ix2 (0 : Fin 1) k) := by
  refine broadcastInDim_apply _ _ _ (ix2 n k) (ix2 (0 : Fin 1) k) fun a => ?_
  match a with
  | ⟨0, _⟩ => rfl
  | ⟨1, _⟩ => rfl

/-- A list as a one-row matrix. -/
theorem line_apply {α : Type} (v : S1024.Idx → α) (k : Fin 1024) :
    broadcastInDim S1x1024 ![1] bcast_S1024_S1x1024_1 v (ix2 (0 : Fin 1) k) = v (ix1 k) := by
  refine broadcastInDim_apply _ _ _ (ix2 (0 : Fin 1) k) (ix1 k) fun a => ?_
  match a with
  | ⟨0, _⟩ => rfl

/-- The tokens' inner products with the codes. -/
theorem inner_apply (X : FVec Ideal S65536x64 .f32) (e : FVec Ideal S1024x64 .f32) (n : Fin 65536) (k : Fin 1024) :
    Host.dotGeneral dot_S65536x64_S64x1024_S65536x1024_1_0_0_1_n_n none X
        (transpose S64x1024 [1, 0] e transposes_S1024x64_S64x1024_1_0) (ix2 n k)
      = ∑ c, rowsOf X n c * codesOf e k c := by
  refine (StackMember.dotGeneral_plain_apply (m := 65536) (k := 64) (n := 1024) none X _ n k).trans ?_
  refine Finset.sum_congr rfl fun c _ => ?_
  rw [show transpose S64x1024 [1, 0] e transposes_S1024x64_S64x1024_1_0 (ix2 c k) = e (ix2 k c) from transpose_ix2_apply _ _ _ _]
  rfl

/-- The reference's distances. -/
theorem dists_apply (X : FVec Ideal S65536x64 .f32) (e : FVec Ideal S1024x64 .f32) (n : Fin 65536) (k : Fin 1024) :
    dists X e (ix2 n k) = Cert.Vq.dists (rowsOf X) (codesOf e) n k := by
  unfold dists
  rw [subf_apply, addf_apply, mulf_apply, column_apply, row_apply, line_apply, rowSq_apply, codeSq_apply, inner_apply, broadcastInDim_scalar_apply]
  rw [show (constant S_ .f32 0x40000000#32 : FVec Ideal S_ .f32) ix0 = 2 from two_word]
  rfl

/-- A comparison of two small numbers' words, read as a float. -/
theorem sameWord (j k : Fin 1024) :
    (FloatOps.uitofp .f32 (IntOp.cmpi .eq (BitVec.ofNat 32 j.val) (BitVec.ofNat 32 k.val)) : Ideal .f32) = if k = j then (1 : EReal) else 0 := by
  show (((BitVec.ofBool (BitVec.ofNat 32 j.val == BitVec.ofNat 32 k.val)).toNat : ℝ) : EReal) = _
  by_cases h : k = j
  · rw [if_pos h, h, beq_self_eq_true]
    simp
  · rw [if_neg h]
    have : (BitVec.ofNat 32 j.val == BitVec.ofNat 32 k.val) = false := by
      rw [beq_eq_false_iff_ne]
      intro he
      have he := congrArg BitVec.toNat he
      rw [BitVec.toNat_ofNat, BitVec.toNat_ofNat, Nat.mod_eq_of_lt (by omega), Nat.mod_eq_of_lt (by omega)] at he
      exact h (Fin.ext he.symm)
    rw [this]
    simp

/-- The one-hot rows of small codes. -/
theorem onehot_apply (K : IVec S65536 32) (j : Fin 1024) (n : Fin 65536) (k : Fin 1024) (hK : K (ix1 n) = BitVec.ofNat 32 j.val) :
    (onehot K : FVec Ideal S65536x1024 .f32) (ix2 n k) = if k = j then (1 : EReal) else 0 := by
  unfold onehot
  show FloatOps.uitofp .f32 (IntOp.cmpi .eq (broadcastInDim S65536x1024 ![0, 1] bcast_S65536x1_S65536x1024_0_1
      (broadcastInDim S65536x1 ![0] bcast_S65536_S65536x1_0 K) (ix2 n k))
    (broadcastInDim S65536x1024 ![0, 1] bcast_S1x1024_S65536x1024_0_1 (iotaInDim S1x1024 32 1) (ix2 n k))) = _
  rw [column_apply, row_apply, hK]
  exact sameWord j k

/-- The reference's one-hot rows. -/
theorem hot_apply (x : FVec Ideal S4x64x16x32x32 .f32) (e : FVec Ideal S1024x64 .f32) (n : Fin 65536) (k : Fin 1024) :
    hot x e (ix2 n k) = hotRow (Cert.Vq.dists (rowsOf (rows x)) (codesOf e) n) k := by
  unfold hot
  refine (onehot_apply _ _ n k (codes_apply (dists (rows x) e) n)).trans ?_
  rw [show (fun k => (dists (rows x) e (ix2 n k) : EReal)) = Cert.Vq.dists (rowsOf (rows x)) (codesOf e) n from funext fun k => dists_apply _ _ n k]
  rfl

/-- The quantised rows, flat. -/
def flat (X : FVec Ideal S65536x64 .f32) (e : FVec Ideal S1024x64 .f32) : FVec Ideal S65536x64 .f32 := fun i =>
  codesOf e (first (Cert.Vq.dists (rowsOf X) (codesOf e) (i 0))) (i 1)

/-- The reference's one-hot rows times the codebook choose the first nearest codes. -/
theorem picked (x : FVec Ideal S4x64x16x32x32 .f32) (e : FVec Ideal S1024x64 .f32) :
    Host.dotGeneral dot_S65536x1024_S1024x64_S65536x64_1_0_0_1_n_n none (hot x e) e = flat (rows x) e := by
  funext i
  obtain ⟨n, c, rfl⟩ : ∃ (n : Fin 65536) (c : Fin 64), i = ix2 n c := ⟨i 0, i 1, eq_ix2 i⟩
  refine (StackMember.dotGeneral_plain_apply (m := 65536) (k := 1024) (n := 64) none (hot x e) e n c).trans ?_
  simp only [hot_apply]
  exact Cert.Vq.sum_hotRow _ fun k => codesOf e k c

/-- The quantised tokens. -/
theorem quant_eq (x : FVec Ideal S4x64x16x32x32 .f32) (e : FVec Ideal S1024x64 .f32) :
    quant (hot x e) e = shapeCast S4x16x32x32x64 (flat (rows x) e) shapeCasts_S65536x64_S4x16x32x32x64 := by
  unfold quant
  rw [picked]

/-- The tokens with channels last are the rows in that layout. -/
theorem lastChannel_eq (x : FVec Ideal S4x64x16x32x32 .f32) :
    lastChannel x = shapeCast S4x16x32x32x64 (rows x) shapeCasts_S65536x64_S4x16x32x32x64 := by
  unfold rows
  rw [shapeCast_shapeCast]

/-- Of real arguments the output is the quantised tokens in the input's layout. -/
theorem out_eq (x : FVec Ideal S4x64x16x32x32 .f32) (e : FVec Ideal S1024x64 .f32)
    (hX : ∀ n c, ∃ r : ℝ, rowsOf (rows x) n c = r) (hE : ∀ k c, ∃ r : ℝ, codesOf e k c = r) :
    out (quant (hot x e) e) (lastChannel x)
      = transpose S4x64x16x32x32 [0, 4, 1, 2, 3] (shapeCast S4x16x32x32x64 (flat (rows x) e) shapeCasts_S65536x64_S4x16x32x32x64)
          transposes_S4x16x32x32x64_S4x64x16x32x32_0_4_1_2_3 := by
  rw [quant_eq, lastChannel_eq]
  unfold out
  refine congrArg (fun y => transpose S4x64x16x32x32 [0, 4, 1, 2, 3] y transposes_S4x16x32x32x64_S4x64x16x32x32_0_4_1_2_3) (funext fun i => ?_)
  show (rows x (Shape.reshapeEquiv _ i) : EReal) + (flat (rows x) e (Shape.reshapeEquiv _ i) - rows x (Shape.reshapeEquiv _ i)) = flat (rows x) e (Shape.reshapeEquiv _ i)
  generalize Shape.reshapeEquiv _ i = y
  refine Cert.Vq.add_sub_real ?_ (hE _ _)
  rw [eq_ix2 y]; exact hX _ _

/-- The word of 2²². -/
theorem mean_word : Ideal.ofBits .f32 0x4A800000#32 = ((4194304 : ℝ) : EReal) := by
  simp [Ideal.ofBits, Ideal.ieee, -EReal.coe_mul]; norm_num

/-- The word of a quarter. -/
theorem quarter_word : Ideal.ofBits .f32 0x3E800000#32 = ((1 / 4 : ℝ) : EReal) := by
  simp [Ideal.ofBits, Ideal.ieee, -EReal.coe_mul]; norm_num

/-- The mean squared difference of two flat arrays, in the tokens' layout. -/
theorem meanSq_apply (Q X : FVec Ideal S65536x64 .f32) (i : S_.Idx) :
    meanSq (shapeCast S4x16x32x32x64 Q shapeCasts_S65536x64_S4x16x32x32x64) (shapeCast S4x16x32x32x64 X shapeCasts_S65536x64_S4x16x32x32x64) i
      = (∑ n : Fin 65536, ∑ c : Fin 64, ((Q (ix2 n c) : EReal) - X (ix2 n c)) * (Q (ix2 n c) - X (ix2 n c))) * ((1 / 4194304 : ℝ) : EReal) := by
  unfold meanSq
  rw [hostDivf_apply]
  rw [show (constant S_ .f32 0x4A800000#32 : FVec Ideal S_ .f32) i = ((4194304 : ℝ) : EReal) from mean_word, Ideal.div_coe (by norm_num)]
  refine congrArg (fun a : EReal => a * ((1 / 4194304 : ℝ) : EReal)) ?_
  refine (hostReduceAdd_apply _ _ _ _ _).trans ?_
  refine (Ideal.hostReduceAdd_total reducesTo_S4x16x32x32x64_S_d0_1_2_3_4 (fun b => b.elim0) _ _ _).trans ?_
  rw [show (constant S_ .f32 0x00000000#32 : FVec Ideal S_ .f32) (Shape.Idx.first h_S_) = 0 from Ideal.ofBits_zero_f32, zero_add]
  refine (Equiv.sum_comp (Shape.reshapeEquiv shapeCasts_S65536x64_S4x16x32x32x64) fun y : S65536x64.Idx => ((Q y : EReal) - X y) * (Q y - X y)).trans ?_
  exact sum_idx2 _

/-- A real's mean over 2²² and a quarter of that mean are one product. -/
theorem mean_and_quarter (r : ℝ) :
    (r : EReal) * ((1 / 4194304 : ℝ) : EReal) + ((1 / 4 : ℝ) : EReal) * ((r : EReal) * ((1 / 4194304 : ℝ) : EReal))
      = (r : EReal) * ((5 / 16777216 : ℝ) : EReal) := by
  rw [← EReal.coe_mul, ← EReal.coe_mul, ← EReal.coe_mul, ← EReal.coe_add, EReal.coe_eq_coe_iff]
  ring

/-- Of real arguments the loss is the total least distance over 2²², and a quarter of it more. -/
theorem loss_eq (x : FVec Ideal S4x64x16x32x32 .f32) (e : FVec Ideal S1024x64 .f32)
    (hX : ∀ n c, ∃ r : ℝ, rowsOf (rows x) n c = r) (hE : ∀ k c, ∃ r : ℝ, codesOf e k c = r) :
    loss (quant (hot x e) e) (lastChannel x) = fun _ => total (rowsOf (rows x)) (codesOf e) * ((5 / 16777216 : ℝ) : EReal) := by
  rw [quant_eq, lastChannel_eq]
  funext i
  unfold loss
  rw [addf_apply, mulf_apply, meanSq_apply]
  rw [show (constant S_ .f32 0x3E800000#32 : FVec Ideal S_ .f32) i = ((1 / 4 : ℝ) : EReal) from quarter_word]
  have hs : (∑ n : Fin 65536, ∑ c : Fin 64, ((flat (rows x) e (ix2 n c) : EReal) - rows x (ix2 n c)) * (flat (rows x) e (ix2 n c) - rows x (ix2 n c)))
      = total (rowsOf (rows x)) (codesOf e) :=
    Finset.sum_congr rfl fun n _ => Cert.Vq.sum_sq_eq_dist (rowsOf (rows x) n) (codesOf e) _ (hX n) (hE _)
  rw [hs]
  obtain ⟨r, hr⟩ : ∃ r : ℝ, total (rowsOf (rows x)) (codesOf e) = r := by
    choose d hd using fun n => Cert.Vq.dist_real (rowsOf (rows x) n) (codesOf e) (first (Cert.Vq.dists (rowsOf (rows x)) (codesOf e) n)) (hX n) (hE _)
    refine ⟨∑ n, d n, ?_⟩
    rw [Cert.Vq.coe_sum_real]
    exact Finset.sum_congr rfl fun n _ => hd n
  rw [hr]
  exact mean_and_quarter r

/-- The word of 65536. -/
theorem tokens_word : Ideal.ofBits .f32 0x47800000#32 = ((65536 : ℝ) : EReal) := by
  simp [Ideal.ofBits, Ideal.ieee, -EReal.coe_mul]; norm_num

/-- The shares are the counts over the number of tokens. -/
theorem shares_apply (x : FVec Ideal S4x64x16x32x32 .f32) (e : FVec Ideal S1024x64 .f32) (k : Fin 1024) :
    shares (hot x e) (ix1 k) = count (rowsOf (rows x)) (codesOf e) k * ((1 / 65536 : ℝ) : EReal) := by
  unfold shares
  rw [hostDivf_apply, broadcastInDim_scalar_apply]
  rw [show (constant S_ .f32 0x47800000#32 : FVec Ideal S_ .f32) ix0 = ((65536 : ℝ) : EReal) from tokens_word, Ideal.div_coe (by norm_num)]
  refine congrArg (fun a : EReal => a * ((1 / 65536 : ℝ) : EReal)) ?_
  refine (hostReduceAdd_apply _ _ _ _ _).trans ?_
  refine (Ideal.hostReduceAdd_single reducesTo_S65536x1024_S1024_d0 (by decide) _ _ _).trans ?_
  rw [show (constant S_ .f32 0x00000000#32 : FVec Ideal S_ .f32) (Shape.Idx.first h_S_) = 0 from Ideal.ofBits_zero_f32, zero_add]
  refine Finset.sum_congr rfl fun n _ => ?_
  have : (by decide : S65536x1024.Reduces [0] S1024).lift (ix1 k) n = ix2 n k :=
    funext fun a => match a with | ⟨0, _⟩ => rfl | ⟨1, _⟩ => rfl
  rw [this]
  exact hot_apply x e n k

/-- The perplexity of shares. -/
theorem perp_apply (p : FVec Ideal S1024 .f32) (i : S_.Idx) :
    perp p i = Ideal.exp (-(∑ k : Fin 1024, (p (ix1 k) : EReal) * Ideal.log (p (ix1 k) + Ideal.ofBits .f32 0x2EDBE6FF#32))) := by
  unfold perp
  refine congrArg (fun a : EReal => Ideal.exp (-a)) ?_
  refine (hostReduceAdd_apply _ _ _ _ _).trans ?_
  refine (Ideal.hostReduceAdd_total reducesTo_S1024_S_d0 (fun b => b.elim0) _ _ _).trans ?_
  rw [show (constant S_ .f32 0x00000000#32 : FVec Ideal S_ .f32) (Shape.Idx.first h_S_) = 0 from Ideal.ofBits_zero_f32, zero_add]
  refine (Fintype.sum_bijective (fun k : Fin 1024 => (ix1 k : S1024.Idx)) ⟨fun a b h => congrFun h 0, fun i => ⟨i 0, (eq_ix1 i).symm⟩⟩ _ _ fun k => ?_).symm
  rfl

end Cert.ReferenceIdeal.Vq

end
-- ==== Proof.Equation.lean ====
/-
  The kernel's four results are the reference's, of arguments that are real throughout.
-/
module

public import proofs.«01_k».proof.Proof.KernelRun
public import proofs.«01_k».proof.Proof.RefValue

@[expose] public section

noncomputable section

namespace Cert.Equation

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ) (c : Dev Cert.KernelIdeal.nD)

/-- The tokens argument. -/
abbrev argX : FVec Ideal Cert.ReferenceIdeal.S4x64x16x32x32 .f32 := m ((c.tc : Thread Cert.KernelIdeal.nD Cert.KernelIdeal.τ).loc Cert.KernelIdeal.main_arg0)

/-- The codebook argument. -/
abbrev argE : FVec Ideal Cert.ReferenceIdeal.S1024x64 .f32 := m ((c.tc : Thread Cert.KernelIdeal.nD Cert.KernelIdeal.τ).loc Cert.KernelIdeal.main_arg1)

/-- The kernel's tokens are the reference's rows. -/
theorem tokens_eq : Cert.KernelIdeal.Vq.tokens m c = Cert.ReferenceIdeal.Vq.rowsOf (Cert.ReferenceIdeal.Vq.rows (argX m c)) := by
  funext n ch
  exact congrFun (Cert.KernelIdeal.Vq.V_main_v1 m c) (ix2 n ch)

/-- The kernel's codebook is the reference's. -/
theorem book_eq : Cert.KernelIdeal.Vq.book m c = Cert.ReferenceIdeal.Vq.codesOf (argE m c) := by
  funext k ch
  exact congrFun (Cert.KernelIdeal.Gen.V_main_arg1 m c) (ix2 k ch)

/-- The one-hot results agree. -/
theorem hot_eq : Cert.ReferenceIdeal.Vq.hot (argX m c) (argE m c) = Cert.KernelIdeal.Vq.hotArr m c := by
  funext i
  obtain ⟨n, k, rfl⟩ : ∃ (n : Fin 65536) (k : Fin 1024), i = ix2 n k := ⟨i 0, i 1, eq_ix2 i⟩
  rw [Cert.ReferenceIdeal.Vq.hot_apply, ← tokens_eq, ← book_eq]
  rfl

/-- The flat quantised rows agree. -/
theorem flat_eq : Cert.ReferenceIdeal.Vq.flat (Cert.ReferenceIdeal.Vq.rows (argX m c)) (argE m c) = Cert.KernelIdeal.Vq.quantArr m c := by
  unfold Cert.ReferenceIdeal.Vq.flat
  rw [← tokens_eq, ← book_eq]
  rfl

/-- The perplexities agree. -/
theorem perp_eq : Cert.ReferenceIdeal.Vq.perp (Cert.ReferenceIdeal.Vq.shares (Cert.ReferenceIdeal.Vq.hot (argX m c) (argE m c)))
    = fun _ => Cert.KernelIdeal.Vq.perplexity (Cert.Vq.count (Cert.KernelIdeal.Vq.tokens m c) (Cert.KernelIdeal.Vq.book m c)) := by
  funext i
  rw [Cert.ReferenceIdeal.Vq.perp_apply, tokens_eq, book_eq]
  simp only [Cert.ReferenceIdeal.Vq.shares_apply]
  rfl

/-- The reference's rows of real tokens are real. -/
theorem rows_real (x : FVec Ideal Cert.ReferenceIdeal.S4x64x16x32x32 .f32) (h : ∀ i, ∃ r : ℝ, (x i : EReal) = r) (n : Fin 65536) (ch : Fin 64) :
    ∃ r : ℝ, Cert.ReferenceIdeal.Vq.rowsOf (Cert.ReferenceIdeal.Vq.rows x) n ch = r := h _

variable (hX : ∀ i, ∃ r : ℝ, (argX m c i : EReal) = r) (hE : ∀ i, ∃ r : ℝ, (argE m c i : EReal) = r)

include hX hE

/-- The output tokens agree. -/
theorem out_eq : Cert.ReferenceIdeal.Vq.out (Cert.ReferenceIdeal.Vq.quant (Cert.ReferenceIdeal.Vq.hot (argX m c) (argE m c)) (argE m c))
      (Cert.ReferenceIdeal.Vq.lastChannel (argX m c)) = Cert.KernelIdeal.Vq.outArr m c := by
  rw [Cert.ReferenceIdeal.Vq.out_eq _ _ (rows_real _ hX) (fun k ch => hE _), flat_eq]
  rfl

/-- The losses agree. -/
theorem loss_eq : Cert.ReferenceIdeal.Vq.loss (Cert.ReferenceIdeal.Vq.quant (Cert.ReferenceIdeal.Vq.hot (argX m c) (argE m c)) (argE m c))
      (Cert.ReferenceIdeal.Vq.lastChannel (argX m c))
    = fun _ => Cert.Vq.total (Cert.KernelIdeal.Vq.tokens m c) (Cert.KernelIdeal.Vq.book m c) * Cert.KernelIdeal.Vq.lossScale := by
  rw [Cert.ReferenceIdeal.Vq.loss_eq _ _ (rows_real _ hX) (fun k ch => hE _), tokens_eq, book_eq]
  rfl

end Cert.Equation

end
-- ==== Proof.Finite.lean ====
/-
  What the precondition says over the extended reals: every entry of both arguments is a real number.
-/
module

public import proofs.«01_k».proof.Pre_finite
public import Idealize.ShloMosaic.Lib.ReduceAll
public import Idealize.ShloMosaic.Lib.Affine
public import Idealize.ShloMosaic.Lib.ValueIdx
public import Idealize.ShloMosaic.Lib.IdealHost
public import Idealize.ShloMosaic.PureOps.Ideal.Laws

@[expose] public section

noncomputable section

namespace Cert.Pre_finite.Vq

open Cert.Pre_finite Idealize.ShloMosaic Idealize.ShloMosaic.ValueIdx

/-- The side conditions the precondition states. -/
theorem facts : Cert.Pre_finite.Facts where
  bcast_S_S4x64x16x32x32 := by decide
  reducesTo_S4x64x16x32x32_S_d0_1_2_3_4 := by decide
  h_S_ := by decide
  bcast_S_S1024x64 := by decide
  reducesTo_S1024x64_S_d0_1 := by decide

/-- The word of positive infinity. -/
theorem inf_word : Ideal.ofBits .f32 0x7F800000#32 = ⊤ := by simp [Ideal.ofBits, Ideal.ieee]

/-- A value whose magnitude compares below positive infinity is real. -/
theorem real_of_lt (a : EReal) (h : (FloatOps.cmpf (F := Ideal) (φ := .f32) .olt (max a (-a) : EReal) (⊤ : EReal)) = 1#1) : ∃ r : ℝ, a = r := by
  have hlt : max a (-a) < ⊤ := by
    rw [Ideal.cmpf_def, Ideal.cmp] at h
    by_contra hn
    simp [hn] at h
  induction a with
  | bot => simp at hlt
  | coe r => exact ⟨r, rfl⟩
  | top => simp at hlt

/-- The result of a whole reduction has one index. -/
instance : Subsingleton S_.Idx := ⟨fun a b => funext fun i => i.elim0⟩

/-- Under the precondition both arguments are real throughout. -/
theorem real (x : FVec Ideal S4x64x16x32x32 .f32) (e : FVec Ideal S1024x64 .f32)
    (h : @Cert.Pre_finite.fn facts Ideal _ x e = fun _ => 1#1) :
    (∀ i, ∃ r : ℝ, (x i : EReal) = r) ∧ ∀ i, ∃ r : ℝ, (e i : EReal) = r := by
  have h0 := congrFun h ix0
  unfold Cert.Pre_finite.fn at h0
  obtain ⟨h1, h2⟩ := IntOp.andi_eq_one.mp h0
  refine ⟨fun i => real_of_lt (x i) ?_, fun i => real_of_lt (e i) ?_⟩
  · have := Host.reduce_andi_all _ _ _ _ _ h1 i
    rw [← inf_word]
    exact this
  · have := Host.reduce_andi_all _ _ _ _ _ h2 i
    rw [← inf_word]
    exact this

end Cert.Pre_finite.Vq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.ValueIdx

/-- The reference ends with its arguments unchanged and, having no semaphores, every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0 :=
  (θ_run Cert.ReferenceIdeal.defs _ _).mono
    (fun r h => ⟨fun c => ⟨(h c).2.2.2.2.1, (h c).2.2.2.2.2⟩, sem_eq_zero_of_no_sems (by decide) r.2⟩) (Cert.ReferenceIdeal.Vq.run m g)

/-- The kernel's four results are the reference's, of finite arguments. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Vq.facts) := by
  intro m g m' g' hpre hargs
  have hreal := fun c => Cert.Pre_finite.Vq.real _ _ (hpre c)
  refine ⟨fun c _ => Cert.Vq.total (Cert.KernelIdeal.Vq.tokens m c) (Cert.KernelIdeal.Vq.book m c) * Cert.KernelIdeal.Vq.lossScale,
    fun c => Cert.KernelIdeal.Vq.outArr m c,
    fun c _ => Cert.KernelIdeal.Vq.perplexity (Cert.Vq.count (Cert.KernelIdeal.Vq.tokens m c) (Cert.KernelIdeal.Vq.book m c)),
    fun c => Cert.KernelIdeal.Vq.hotArr m c, Cert.KernelIdeal.Vq.run m g,
    (θ_run Cert.ReferenceIdeal.defs _ _).mono (fun r h c => ?_) (Cert.ReferenceIdeal.Vq.run m' g')⟩
  obtain ⟨h1, h2, h3, h4, h5, h6⟩ := h c
  rw [(hargs c).1, (hargs c).2] at h1 h2 h3
  rw [(hargs c).1, (hargs c).2] at h4
  exact ⟨h1.trans (Cert.Equation.loss_eq m c (hreal c).1 (hreal c).2), h2.trans (Cert.Equation.out_eq m c (hreal c).1 (hreal c).2),
    h3.trans (Cert.Equation.perp_eq m c), h4.trans (Cert.Equation.hot_eq m c), h5, h6⟩

/-- Every claim of the certificate. -/
theorem claim : Cert.Claim :=
  ⟨Cert.Kernel.Gen.facts, Cert.KernelIdeal.Gen.facts, Cert.ReferenceIdeal.Gen.facts, Cert.Pre_finite.Vq.facts,
    fun m g _ => Cert.Kernel.Gen.frame m g, fun m g _ => Cert.KernelIdeal.Gen.frame m g, fun m g _ => Cert.KernelIdeal.Gen.frame m g,
    fun m g _ => reference_frame m g, fun m g _ => reference_frame m g, trivial, equal⟩

end Cert.Proof

end
